-- ==== Defs.lean ====
def Pre_Kernel (m : (ℓ : Loc Cert.Kernel.nD Cert.Kernel.τ Cert.Kernel.sig) → Buf (Elt Bits) ℓ) : Prop :=
  True

def Pre_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal) (hPre_finite_KernelIdeal := hPre_finite_KernelIdeal)
    ∧ quiescent_KernelIdeal_pre_none (hKernelIdeal := hKernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S2x256x512 .f32) (main_arg1 : FVec F S512x256 .f32) (main_arg2 : FVec F S32x256x64x64 .f32) (main_arg3 : FVec F S32x256x64x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S32x256x64x64 .f32 := Host.absf main_arg2
  let main_cst_2 : FVec F S_ .f32 := constant S_ .f32 0x7F800000#32
  let main_v10 : FVec F S32x256x64x64 .f32 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  main_v13
-- ==== Pre_finite_ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn {F : FTy → Type} [FloatOps F] (main_arg0 : FVec F S32x256x512 .f32) (main_arg1 : FVec F S512x4096 .f32) (main_arg2 : FVec F S32x256x64x64 .f32) (main_arg3 : FVec F S32x256x64x64 .f32) (main_arg4 : FVec F S4096x512 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S32x256x64x64 .f32 := Host.absf main_arg2
  let main_cst_2 : FVec F S_ .f32 := constant S_ .f32 0x7F800000#32
  let main_v10 : FVec F S32x256x64x64 .f32 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩
abbrev S2x256x64x64 : Shape := ⟨4, ![2, 256, 64, 64]⟩
abbrev S64x2x256x64 : Shape := ⟨4, ![64, 2, 256, 64]⟩
abbrev S16x512x256 : Shape := ⟨3, ![16, 512, 256]⟩
abbrev S16x256x512 : Shape := ⟨3, ![16, 256, 512]⟩
abbrev S8 : Shape := ⟨1, ![8]⟩
abbrev S7 : Shape := ⟨1, ![7]⟩
abbrev S1x512x256 : Shape := ⟨3, ![1, 512, 256]⟩
abbrev S1x256x512 : Shape := ⟨3, ![1, 256, 512]⟩
abbrev S256x256 : Shape := ⟨2, ![256, 256]⟩
abbrev S512x512 : Shape := ⟨2, ![512, 512]⟩
abbrev S1 : Shape := ⟨1, ![1]⟩
abbrev S256x64 : Shape := ⟨2, ![256, 64]⟩
abbrev S1x1x256x64 : Shape := ⟨4, ![1, 1, 256, 64]⟩
abbrev S1x256x64 : Shape := ⟨3, ![1, 256, 64]⟩
abbrev S256 : Shape := ⟨1, ![256]⟩
abbrev S256x1 : Shape := ⟨2, ![256, 1]⟩

abbrev nBuf : Space → Nat
  | .hbm => 41
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S32x256x64x64, .f32⟩
  | .hbm, ⟨3, _⟩ => ⟨S32x256x64x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x64x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x64x64, .f32⟩
  | .hbm, ⟨33, _⟩ => ⟨S64x2x256x64, .f32⟩
  | .hbm, ⟨34, _⟩ => ⟨S64x2x256x64, .bf16⟩
  | .hbm, ⟨35, _⟩ => ⟨S64x2x256x64, .f32⟩
  | .hbm, ⟨36, _⟩ => ⟨S64x2x256x64, .bf16⟩
  | .hbm, ⟨37, _⟩ => ⟨S2x256x512, .bf16⟩
  | .hbm, ⟨38, _⟩ => ⟨S512x256, .bf16⟩
  | .hbm, ⟨39, _⟩ => ⟨S256x512, .bf16⟩
  | .hbm, ⟨40, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S256x512, .bf16⟩
  | .local _ .vmem, ⟨3, _⟩ => ⟨S64x2x256x64, .bf16⟩
  | .local _ .vmem, ⟨4, _⟩ => ⟨S64x2x256x64, .bf16⟩
  | .local _ .vmem, ⟨5, _⟩ => ⟨S2x256x512, .f32⟩
  | .local _ .vmem, ⟨6, _⟩ => ⟨S16x512x256, .bf16⟩
  | .local _ .vmem, ⟨7, _⟩ => ⟨S16x256x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_38 : BitVec 32 := 1#32
  let v78 : BitVec 32 := Scalar.muli v7 c1_i32_38
  let v79 : BitVec 32 := Scalar.addi c0_i32_39 v78
  v79.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_48 : BitVec 32 := 1#32
  let v88 : BitVec 32 := Scalar.muli v7 c1_i32_48
  let v89 : BitVec 32 := Scalar.addi c0_i32_49 v88
  v89.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_58 : BitVec 32 := 1#32
  let v98 : BitVec 32 := Scalar.muli v5 c1_i32_58
  let v99 : BitVec 32 := Scalar.addi c0_i32_59 v98
  v99.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_68 : BitVec 32 := 1#32
  let v108 : BitVec 32 := Scalar.muli v5 c1_i32_68
  let v109 : BitVec 32 := Scalar.addi c0_i32_69 v108
  v109.toNat
def k0_off1 (d0 : Dev nD) (c0_i32_74 : BitVec 32) (c0_i32_83 : BitVec 32) : Fin 4 → Nat :=
  let c4_i32 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v118 : BitVec 32 := Scalar.addi v2 c0_i32_74
  let c16_i32_75 : BitVec 32 := 16#32
  let v119 : BitVec 32 := Scalar.remsi v118 c16_i32_75
  let v126 : BitVec 32 := Scalar.muli c4_i32 v119
  let v127 : BitVec 32 := Scalar.addi v126 c0_i32_83
  let v128 : Index := Scalar.indexCast v127
  let c0_84 : Index := 0#32
  let c0_85 : Index := 0#32
  let c0_86 : Index := 0#32
  ![v128.toNat, 0, 0, 0]
def k0_off2 (d0 : Dev nD) (c0_i32_74 : BitVec 32) (c0_i32_142 : BitVec 32) : Fin 4 → Nat :=
  let c4_i32_141 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v118 : BitVec 32 := Scalar.addi v2 c0_i32_74
  let c16_i32_75 : BitVec 32 := 16#32
  let v119 : BitVec 32 := Scalar.remsi v118 c16_i32_75
  let v231 : BitVec 32 := Scalar.muli c4_i32_141 v119
  let v232 : BitVec 32 := Scalar.addi v231 c0_i32_142
  let v233 : Index := Scalar.indexCast v232
  let c1 : Index := 1#32
  let c0_143 : Index := 0#32
  let c0_144 : Index := 0#32
  ![v233.toNat, 1, 0, 0]
def k0_dev7 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_244 : BitVec 32 := 1#32
  let v371 : BitVec 32 := Scalar.muli v7 c1_i32_244
  let v372 : BitVec 32 := Scalar.addi c0_i32_245 v371
  v372.toNat
def k0_dev8 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_254 : BitVec 32 := 1#32
  let v381 : BitVec 32 := Scalar.muli v7 c1_i32_254
  let v382 : BitVec 32 := Scalar.addi c0_i32_255 v381
  v382.toNat
def k0_dev9 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_264 : BitVec 32 := 1#32
  let v391 : BitVec 32 := Scalar.muli v5 c1_i32_264
  let v392 : BitVec 32 := Scalar.addi c0_i32_265 v391
  v392.toNat
def k0_dev10 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_274 : BitVec 32 := 1#32
  let v401 : BitVec 32 := Scalar.muli v5 c1_i32_274
  let v402 : BitVec 32 := Scalar.addi c0_i32_275 v401
  v402.toNat
def k0_dev11 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_618 : BitVec 32 := 1#32
  let v909 : BitVec 32 := Scalar.muli v7 c1_i32_618
  let v910 : BitVec 32 := Scalar.addi c0_i32_619 v909
  v910.toNat
def k0_dev12 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_628 : BitVec 32 := 1#32
  let v919 : BitVec 32 := Scalar.muli v7 c1_i32_628
  let v920 : BitVec 32 := Scalar.addi c0_i32_629 v919
  v920.toNat
def k0_dev13 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_638 : BitVec 32 := 1#32
  let v929 : BitVec 32 := Scalar.muli v5 c1_i32_638
  let v930 : BitVec 32 := Scalar.addi c0_i32_639 v929
  v930.toNat
def k0_dev14 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_648 : BitVec 32 := 1#32
  let v939 : BitVec 32 := Scalar.muli v5 c1_i32_648
  let v940 : BitVec 32 := Scalar.addi c0_i32_649 v939
  v940.toNat
def k0_dev15 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_991 : BitVec 32 := 1#32
  let v1447 : BitVec 32 := Scalar.muli v7 c1_i32_991
  let v1448 : BitVec 32 := Scalar.addi c0_i32_992 v1447
  v1448.toNat
def k0_dev16 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1001 : BitVec 32 := 1#32
  let v1457 : BitVec 32 := Scalar.muli v7 c1_i32_1001
  let v1458 : BitVec 32 := Scalar.addi c0_i32_1002 v1457
  v1458.toNat
def k0_dev17 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1011 : BitVec 32 := 1#32
  let v1467 : BitVec 32 := Scalar.muli v5 c1_i32_1011
  let v1468 : BitVec 32 := Scalar.addi c0_i32_1012 v1467
  v1468.toNat
def k0_dev18 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1021 : BitVec 32 := 1#32
  let v1477 : BitVec 32 := Scalar.muli v5 c1_i32_1021
  let v1478 : BitVec 32 := Scalar.addi c0_i32_1022 v1477
  v1478.toNat
def k0_dev19 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1364 : BitVec 32 := 1#32
  let v1985 : BitVec 32 := Scalar.muli v7 c1_i32_1364
  let v1986 : BitVec 32 := Scalar.addi c0_i32_1365 v1985
  v1986.toNat
def k0_dev20 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1374 : BitVec 32 := 1#32
  let v1995 : BitVec 32 := Scalar.muli v7 c1_i32_1374
  let v1996 : BitVec 32 := Scalar.addi c0_i32_1375 v1995
  v1996.toNat
def k0_dev21 (d0 : Dev nD) : Nat :=
  let c0_i32_1384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1383 : BitVec 32 := 1#32
  let v2005 : BitVec 32 := Scalar.muli v5 c1_i32_1383
  let v2006 : BitVec 32 := Scalar.addi c0_i32_1384 v2005
  v2006.toNat
def k0_dev22 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1393 : BitVec 32 := 1#32
  let v2015 : BitVec 32 := Scalar.muli v5 c1_i32_1393
  let v2016 : BitVec 32 := Scalar.addi c0_i32_1394 v2015
  v2016.toNat
def k0_dev23 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1736 : BitVec 32 := 1#32
  let v2523 : BitVec 32 := Scalar.muli v7 c1_i32_1736
  let v2524 : BitVec 32 := Scalar.addi c0_i32_1737 v2523
  v2524.toNat
def k0_dev24 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1746 : BitVec 32 := 1#32
  let v2533 : BitVec 32 := Scalar.muli v7 c1_i32_1746
  let v2534 : BitVec 32 := Scalar.addi c0_i32_1747 v2533
  v2534.toNat
def k0_dev25 (d0 : Dev nD) : Nat :=
  let c0_i32_1756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1755 : BitVec 32 := 1#32
  let v2543 : BitVec 32 := Scalar.muli v5 c1_i32_1755
  let v2544 : BitVec 32 := Scalar.addi c0_i32_1756 v2543
  v2544.toNat
def k0_dev26 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1765 : BitVec 32 := 1#32
  let v2553 : BitVec 32 := Scalar.muli v5 c1_i32_1765
  let v2554 : BitVec 32 := Scalar.addi c0_i32_1766 v2553
  v2554.toNat
def k0_dev27 (d0 : Dev nD) : Nat :=
  let c0_i32_2109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2108 : BitVec 32 := 1#32
  let v3061 : BitVec 32 := Scalar.muli v7 c1_i32_2108
  let v3062 : BitVec 32 := Scalar.addi c0_i32_2109 v3061
  v3062.toNat
def k0_dev28 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2118 : BitVec 32 := 1#32
  let v3071 : BitVec 32 := Scalar.muli v7 c1_i32_2118
  let v3072 : BitVec 32 := Scalar.addi c0_i32_2119 v3071
  v3072.toNat
def k0_dev29 (d0 : Dev nD) : Nat :=
  let c0_i32_2128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2127 : BitVec 32 := 1#32
  let v3081 : BitVec 32 := Scalar.muli v5 c1_i32_2127
  let v3082 : BitVec 32 := Scalar.addi c0_i32_2128 v3081
  v3082.toNat
def k0_dev30 (d0 : Dev nD) : Nat :=
  let c0_i32_2138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2137 : BitVec 32 := 1#32
  let v3091 : BitVec 32 := Scalar.muli v5 c1_i32_2137
  let v3092 : BitVec 32 := Scalar.addi c0_i32_2138 v3091
  v3092.toNat
def k0_dev31 (d0 : Dev nD) : Nat :=
  let c0_i32_2481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2480 : BitVec 32 := 1#32
  let v3599 : BitVec 32 := Scalar.muli v7 c1_i32_2480
  let v3600 : BitVec 32 := Scalar.addi c0_i32_2481 v3599
  v3600.toNat
def k0_dev32 (d0 : Dev nD) : Nat :=
  let c0_i32_2491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2490 : BitVec 32 := 1#32
  let v3609 : BitVec 32 := Scalar.muli v7 c1_i32_2490
  let v3610 : BitVec 32 := Scalar.addi c0_i32_2491 v3609
  v3610.toNat
def k0_dev33 (d0 : Dev nD) : Nat :=
  let c0_i32_2962_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2961_r0 : BitVec 32 := 1#32
  let v4337_r0 : BitVec 32 := Scalar.muli v5 c1_i32_2961_r0
  let v4338_r0 : BitVec 32 := Scalar.addi c0_i32_2962_r0 v4337_r0
  v4338_r0.toNat
def k0_dev34 (d0 : Dev nD) : Nat :=
  let c0_i32_2965_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2964_r0 : BitVec 32 := 1#32
  let v4339_r0 : BitVec 32 := Scalar.muli v7 c1_i32_2964_r0
  let v4340_r0 : BitVec 32 := Scalar.addi c0_i32_2965_r0 v4339_r0
  v4340_r0.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S32x256x4096 : Shape := ⟨3, ![32, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 89
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S512x4096, .f32⟩
  | .hbm, ⟨2, _⟩ => ⟨S32x256x64x64, .f32⟩
  | .hbm, ⟨3, _⟩ => ⟨S32x256x64x64, .f32⟩
  | .hbm, ⟨4, _⟩ => ⟨S4096x512, .f32⟩
  | .hbm, ⟨5, _⟩ => ⟨S32x256x4096, .f32⟩
  | .hbm, ⟨6, _⟩ => ⟨S32x256x64x64, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S256, .i32⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S32x64x256x256, .f32⟩
  | .hbm, ⟨51, _⟩ => ⟨S_, .f32⟩
  | .hbm, ⟨52, _⟩ => ⟨S32x64x256x256, .f32⟩
  | .hbm, ⟨53, _⟩ => ⟨S32x64x256x256, .f32⟩
  | .hbm, ⟨54, _⟩ => ⟨S1x1x256x256, .i1⟩
  | .hbm, ⟨55, _⟩ => ⟨S_, .f32⟩
  | .hbm, ⟨56, _⟩ => ⟨S_, .f32⟩
  | .hbm, ⟨57, _⟩ => ⟨S32x64x256x256, .i1⟩
  | .hbm, ⟨58, _⟩ => ⟨S32x64x256x256, .f32⟩
  | .hbm, ⟨59, _⟩ => ⟨S32x64x256x256, .f32⟩
  | .hbm, ⟨60, _⟩ => ⟨S_, .f32⟩
  | .hbm, ⟨61, _⟩ => ⟨S32x64x256, .f32⟩
  | .hbm, ⟨62, _⟩ => ⟨S32x64x256x1, .f32⟩
  | .hbm, ⟨63, _⟩ => ⟨S32x64x256x256, .f32⟩
  | .hbm, ⟨64, _⟩ => ⟨S32x64x256x256, .f32⟩
  | .hbm, ⟨65, _⟩ => ⟨S32x64x256x256, .f32⟩
  | .hbm, ⟨66, _⟩ => ⟨S_, .i1⟩
  | .hbm, ⟨67, _⟩ => ⟨S256, .i1⟩
  | .hbm, ⟨68, _⟩ => ⟨S1x1x256x1, .i1⟩
  | .hbm, ⟨69, _⟩ => ⟨S_, .f32⟩
  | .hbm, ⟨70, _⟩ => ⟨S32x64x256, .f32⟩
  | .hbm, ⟨71, _⟩ => ⟨S32x64x256x1, .f32⟩
  | .hbm, ⟨72, _⟩ => ⟨S_, .f32⟩
  | .hbm, ⟨73, _⟩ => ⟨S_, .f32⟩
  | .hbm, ⟨74, _⟩ => ⟨S32x64x256x1, .i1⟩
  | .hbm, ⟨75, _⟩ => ⟨S32x64x256x1, .f32⟩
  | .hbm, ⟨76, _⟩ => ⟨S32x64x256x1, .f32⟩
  | .hbm, ⟨77, _⟩ => ⟨S32x64x256x256, .f32⟩
  | .hbm, ⟨78, _⟩ => ⟨S32x64x256x256, .f32⟩
  | .hbm, ⟨79, _⟩ => ⟨S1x1x256x1, .i1⟩
  | .hbm, ⟨80, _⟩ => ⟨S_, .f32⟩
  | .hbm, ⟨81, _⟩ => ⟨S_, .f32⟩
  | .hbm, ⟨82, _⟩ => ⟨S32x64x256x256, .i1⟩
  | .hbm, ⟨83, _⟩ => ⟨S32x64x256x256, .f32⟩
  | .hbm, ⟨84, _⟩ => ⟨S32x64x256x256, .f32⟩
  | .hbm, ⟨85, _⟩ => ⟨S32x64x64x256, .f32⟩
  | .hbm, ⟨86, _⟩ => ⟨S32x256x64x64, .f32⟩
  | .hbm, ⟨87, _⟩ => ⟨S32x256x4096, .f32⟩
  | .hbm, ⟨88, _⟩ => ⟨S32x256x512, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.K.CleanEq.lean ====
module

public import proofs.«01_k».proof.Proof.K.Clean

@[expose] public section

namespace Cert.Kernel.K

open Idealize.ShloMosaic Idealize.SL.Sem
open Cert.Kernel Cert.Kernel.Gen

variable {F : FTy → Type} [FloatOps F]

set_option maxRecDepth 1000000 in
set_option maxHeartbeats 0 in
theorem body_eq_clean : cc0__body (F := F) = clean (F := F) := rfl

end Cert.Kernel.K
end
-- ==== Proof.KI.Clean.lean ====
module

public import proofs.«01_k».proof.Proof.Gen.KernelIdeal.Skeleton

/-! The kernel's body written over a slot number and a hop number: the printed body, which has every
    hop and every block's contribution written out, is this program by unfolding. -/

@[expose] public section

set_option synthInstance.maxSize 4096

noncomputable section

namespace Cert.KernelIdeal.K

open Idealize.ShloMosaic Idealize.SL.Sem
open Cert.KernelIdeal Cert.KernelIdeal.Gen

variable {F : FTy → Type} [FloatOps F]

/-! ## Slots of the two gather buffers -/

/-- The slot a rightward hop lands in. -/
def rdst (h : Fin 8) : Fin 16 := ⟨15 - h.val, by omega⟩
/-- The slot a rightward hop sends. -/
def rsrc (h : Fin 8) : Fin 16 := ⟨(16 - h.val) % 16, by omega⟩
/-- The slot a leftward hop lands in. -/
def ldst (h : Fin 7) : Fin 16 := ⟨h.val + 1, by omega⟩
/-- The slot a leftward hop sends. -/
def lsrc (h : Fin 7) : Fin 16 := ⟨h.val, by omega⟩

theorem inbQ (s : Fin 16) : ∀ a, (![s.val, 0, 0] : Fin 3 → Nat) a + S1x512x256.size a ≤ S16x512x256.size a := by
  revert s; decide
theorem inbO (s : Fin 16) : ∀ a, (![s.val, 0, 0] : Fin 3 → Nat) a + S1x256x512.size a ≤ S16x256x512.size a := by
  revert s; decide
theorem inb8 (h : Fin 8) : ∀ a, (![h.val] : Fin 1 → Nat) a + S1.size a ≤ S8.size a := by revert h; decide
theorem inb7 (h : Fin 7) : ∀ a, (![h.val] : Fin 1 → Nat) a + S1.size a ≤ S7.size a := by revert h; decide

/-- Slot `s` of the gathered query weights. -/
abbrev rectQ (s : Fin 16) : Rect S16x512x256 := Rect.unit (s := S16x512x256) ![s.val, 0, 0] S1x512x256.size (inbQ s)
/-- Slot `s` of the gathered output weights. -/
abbrev rectO (s : Fin 16) : Rect S16x256x512 := Rect.unit (s := S16x256x512) ![s.val, 0, 0] S1x256x512.size (inbO s)

theorem wordsQ (s : Fin 16) : (rectQ s).WholeWords (EltTy.packing .bf16) := by
  match s with
  | ⟨0, _⟩ => exact wordsbf16_S16x512x256_S1x512x256_0_0_0
  | ⟨1, _⟩ => exact wordsbf16_S16x512x256_S1x512x256_1_0_0
  | ⟨2, _⟩ => exact wordsbf16_S16x512x256_S1x512x256_2_0_0
  | ⟨3, _⟩ => exact wordsbf16_S16x512x256_S1x512x256_3_0_0
  | ⟨4, _⟩ => exact wordsbf16_S16x512x256_S1x512x256_4_0_0
  | ⟨5, _⟩ => exact wordsbf16_S16x512x256_S1x512x256_5_0_0
  | ⟨6, _⟩ => exact wordsbf16_S16x512x256_S1x512x256_6_0_0
  | ⟨7, _⟩ => exact wordsbf16_S16x512x256_S1x512x256_7_0_0
  | ⟨8, _⟩ => exact wordsbf16_S16x512x256_S1x512x256_8_0_0
  | ⟨9, _⟩ => exact wordsbf16_S16x512x256_S1x512x256_9_0_0
  | ⟨10, _⟩ => exact wordsbf16_S16x512x256_S1x512x256_10_0_0
  | ⟨11, _⟩ => exact wordsbf16_S16x512x256_S1x512x256_11_0_0
  | ⟨12, _⟩ => exact wordsbf16_S16x512x256_S1x512x256_12_0_0
  | ⟨13, _⟩ => exact wordsbf16_S16x512x256_S1x512x256_13_0_0
  | ⟨14, _⟩ => exact wordsbf16_S16x512x256_S1x512x256_14_0_0
  | ⟨15, _⟩ => exact wordsbf16_S16x512x256_S1x512x256_15_0_0
  | ⟨n + 16, h⟩ => exact absurd h (by omega)
theorem wordsO (s : Fin 16) : (rectO s).WholeWords (EltTy.packing .bf16) := by
  match s with
  | ⟨0, _⟩ => exact wordsbf16_S16x256x512_S1x256x512_0_0_0
  | ⟨1, _⟩ => exact wordsbf16_S16x256x512_S1x256x512_1_0_0
  | ⟨2, _⟩ => exact wordsbf16_S16x256x512_S1x256x512_2_0_0
  | ⟨3, _⟩ => exact wordsbf16_S16x256x512_S1x256x512_3_0_0
  | ⟨4, _⟩ => exact wordsbf16_S16x256x512_S1x256x512_4_0_0
  | ⟨5, _⟩ => exact wordsbf16_S16x256x512_S1x256x512_5_0_0
  | ⟨6, _⟩ => exact wordsbf16_S16x256x512_S1x256x512_6_0_0
  | ⟨7, _⟩ => exact wordsbf16_S16x256x512_S1x256x512_7_0_0
  | ⟨8, _⟩ => exact wordsbf16_S16x256x512_S1x256x512_8_0_0
  | ⟨9, _⟩ => exact wordsbf16_S16x256x512_S1x256x512_9_0_0
  | ⟨10, _⟩ => exact wordsbf16_S16x256x512_S1x256x512_10_0_0
  | ⟨11, _⟩ => exact wordsbf16_S16x256x512_S1x256x512_11_0_0
  | ⟨12, _⟩ => exact wordsbf16_S16x256x512_S1x256x512_12_0_0
  | ⟨13, _⟩ => exact wordsbf16_S16x256x512_S1x256x512_13_0_0
  | ⟨14, _⟩ => exact wordsbf16_S16x256x512_S1x256x512_14_0_0
  | ⟨15, _⟩ => exact wordsbf16_S16x256x512_S1x256x512_15_0_0
  | ⟨n + 16, h⟩ => exact absurd h (by omega)

/-! ## The values one block contributes -/

/-- One head of one batch row group: the projected queries `q`, the keys and the values. -/
def headV (m : IVec S256x256 1) (q : FVec F S256x64 .f32) (k v : Vec F S1x1x256x64 .bf16) : FVec F S256x64 .f32 :=
  have kk : FVec F S256x64 .bf16 := shapeCast S256x64 (shapeCast S1x256x64 k shapeCasts_S1x1x256x64_S1x256x64 : FVec F S1x256x64 .bf16) shapeCasts_S1x256x64_S256x64
  have vv : FVec F S256x64 .bf16 := shapeCast S256x64 (shapeCast S1x256x64 v shapeCasts_S1x1x256x64_S1x256x64 : FVec F S1x256x64 .bf16) shapeCasts_S1x256x64_S256x64
  have qq : FVec F S256x64 .bf16 := truncf .bf16 q bitsLt_bf16_f32
  have s0 : FVec F S256x256 .f32 := matmul dot_S256x64_S256x64_S256x256_1_1_0_0_n_n none qq kk (constant S256x256 .f32 0x00000000#32)
  have s1 : FVec F S256x256 .f32 := mulf s0 (broadcast S256x256 (Scalar.ofBits .f32 0x3E000000#32))
  have s2 : FVec F S256x256 .f32 := select m s1 (broadcast S256x256 (Scalar.ofBits .f32 0xCE6E6B28#32))
  have w : FVec F S256x256 .f32 := exp s2
  have ws : FVec F S256 .f32 := multiReduction .add [1] S256 w 0x00000000#32 reduces_S256x256_S256 (.inl rfl) rfl
  have ws1 : FVec F S256x1 .f32 := shapeCast S256x1 ws shapeCasts_S256_S256x1
  have wt : FVec F S256x256 .bf16 := truncf .bf16 w bitsLt_bf16_f32
  have pv : FVec F S256x64 .f32 := matmul dot_S256x256_S256x64_S256x64_1_0_0_1_n_n none wt vv (constant S256x64 .f32 0x00000000#32)
  divf pv (broadcastTo S256x64 ws1 broadcasts_S256x1_S256x64)

/-- The projected queries of a block. -/
def qallV (x : FVec F S512x512 .bf16) (w : Vec F S1x512x256 .bf16) : FVec F S512x256 .f32 :=
  matmul dot_S512x512_S512x256_S512x256_1_0_0_1_n_n none x
    (shapeCast S512x256 w shapeCasts_S1x512x256_S512x256 : FVec F S512x256 .bf16) (constant S512x256 .f32 0x00000000#32)

/-- The accumulator after a block's contribution. -/
def stepV (m : IVec S256x256 1) (x : FVec F S512x512 .bf16) (acc : FVec F S512x512 .f32)
    (w : Vec F S1x512x256 .bf16) (wo : Vec F S1x256x512 .bf16)
    (k0 v0 k1 v1 k2 v2 k3 v3 k4 v4 k5 v5 k6 v6 k7 v7 : Vec F S1x1x256x64 .bf16) : FVec F S512x512 .f32 :=
  have q : FVec F S512x256 .f32 := qallV x w
  have c0 : FVec F S256x256 .f32 := concatenate S256x256 1
    [⟨S256x64, headV m (extractStridedSlice S256x64 ![0, 0] q slices_S512x256_o0_0_S256x64) k0 v0⟩,
     ⟨S256x64, headV m (extractStridedSlice S256x64 ![0, 64] q slices_S512x256_o0_64_S256x64) k1 v1⟩,
     ⟨S256x64, headV m (extractStridedSlice S256x64 ![0, 128] q slices_S512x256_o0_128_S256x64) k2 v2⟩,
     ⟨S256x64, headV m (extractStridedSlice S256x64 ![0, 192] q slices_S512x256_o0_192_S256x64) k3 v3⟩]
    concatenates_S256x64_S256x64_S256x64_S256x64_S256x256_d1
  have c1 : FVec F S256x256 .f32 := concatenate S256x256 1
    [⟨S256x64, headV m (extractStridedSlice S256x64 ![256, 0] q slices_S512x256_o256_0_S256x64) k4 v4⟩,
     ⟨S256x64, headV m (extractStridedSlice S256x64 ![256, 64] q slices_S512x256_o256_64_S256x64) k5 v5⟩,
     ⟨S256x64, headV m (extractStridedSlice S256x64 ![256, 128] q slices_S512x256_o256_128_S256x64) k6 v6⟩,
     ⟨S256x64, headV m (extractStridedSlice S256x64 ![256, 192] q slices_S512x256_o256_192_S256x64) k7 v7⟩]
    concatenates_S256x64_S256x64_S256x64_S256x64_S256x256_d1
  have ctx : FVec F S512x256 .bf16 := truncf .bf16 (concatenate S512x256 0 [⟨S256x256, c0⟩, ⟨S256x256, c1⟩] concatenates_S256x256_S256x256_S512x256_d0 : FVec F S512x256 .f32) bitsLt_bf16_f32
  addf acc (matmul dot_S512x256_S256x512_S512x512_1_0_0_1_n_n none ctx
    (shapeCast S256x512 wo shapeCasts_S1x256x512_S256x512 : FVec F S256x512 .bf16) (constant S512x512 .f32 0x00000000#32))

/-- The mask the kernel builds. -/
def maskV : IVec S256x256 1 :=
  k0_pay5 (iota .tc S256x256 32 [1] iota_S256x256_d1_w32) 64#32 k0_pay3 k0_pay4

/-! ## The steps -/

section steps

variable (arg3 arg4 : Memref sig .tc .vmem S64x2x256x64 .bf16)
  (arg6 : Memref sig .tc .vmem S16x512x256 .bf16) (harg6 : arg6.IsWhole)
  (arg7 : Memref sig .tc .vmem S16x256x512 .bf16) (harg7 : arg7.IsWhole)

/-- Head `j` of batch row group 0 of the block in slot `s`, loaded from `a`. -/
abbrev ld0 (a : Memref sig .tc .vmem S64x2x256x64 .bf16) (d0 : Dev nD) (s : Fin 16) (j : Fin 4) :
    Prog (TpuEff nD τ sig (Elt F) Λ₀ .tc) (Vec F S1x1x256x64 .bf16) :=
  Prog.lift (.load a (Rect.unit (s := S64x2x256x64) (k0_off1 d0 (BitVec.ofNat 32 s.val) (BitVec.ofNat 32 j.val)) S1x1x256x64.size (k0_off1_inb d0 s j)).toLoadRect (View.loadsAt_vmem h_S1x1x256x64))
/-- The same of batch row group 1. -/
abbrev ld1 (a : Memref sig .tc .vmem S64x2x256x64 .bf16) (d0 : Dev nD) (s : Fin 16) (j : Fin 4) :
    Prog (TpuEff nD τ sig (Elt F) Λ₀ .tc) (Vec F S1x1x256x64 .bf16) :=
  Prog.lift (.load a (Rect.unit (s := S64x2x256x64) (k0_off2 d0 (BitVec.ofNat 32 s.val) (BitVec.ofNat 32 j.val)) S1x1x256x64.size (k0_off2_inb d0 s j)).toLoadRect (View.loadsAt_vmem h_S1x1x256x64))

/-- The block in slot `s`, added to the accumulator. -/
def contrib (d0 : Dev nD) (m : IVec S256x256 1) (x : FVec F S512x512 .bf16) (s : Fin 16) (acc : FVec F S512x512 .f32) :
    Prog (TpuEff nD τ sig (Elt F) Λ₀ .tc) (FVec F S512x512 .f32) := do
  let w : Vec F S1x512x256 .bf16 ← Prog.lift (.load arg6 (rectQ s).toLoadRect (View.loadsAt_vmem h_S1x512x256))
  let wo : Vec F S1x256x512 .bf16 ← Prog.lift (.load arg7 (rectO s).toLoadRect (View.loadsAt_vmem h_S1x256x512))
  let k0 ← ld0 arg3 d0 s 0
  let v0 ← ld0 arg4 d0 s 0
  let k1 ← ld0 arg3 d0 s 1
  let v1 ← ld0 arg4 d0 s 1
  let k2 ← ld0 arg3 d0 s 2
  let v2 ← ld0 arg4 d0 s 2
  let k3 ← ld0 arg3 d0 s 3
  let v3 ← ld0 arg4 d0 s 3
  let k4 ← ld1 arg3 d0 s 0
  let v4 ← ld1 arg4 d0 s 0
  let k5 ← ld1 arg3 d0 s 1
  let v5 ← ld1 arg4 d0 s 1
  let k6 ← ld1 arg3 d0 s 2
  let v6 ← ld1 arg4 d0 s 2
  let k7 ← ld1 arg3 d0 s 3
  let v7 ← ld1 arg4 d0 s 3
  pure (stepV m x acc w wo k0 v0 k1 v1 k2 v2 k3 v3 k4 v4 k5 v5 k6 v6 k7 v7)

/-- Slot `s` of the query weights as a window. -/
abbrev slotQ (s : Fin 16) : Memref sig .tc .vmem S512x256 .bf16 :=
  (arg6.slice (rectQ s) (fun _ => rfl)).squeeze S512x256 squeezes_S1x512x256_S512x256
/-- Slot `s` of the output weights as a window. -/
abbrev slotO (s : Fin 16) : Memref sig .tc .vmem S256x512 .bf16 :=
  (arg7.slice (rectO s) (fun _ => rfl)).squeeze S256x512 squeezes_S1x256x512_S256x512
/-- One semaphore of an array of eight. -/
abbrev sem8 (a : DmaSems sig S8) (h : Fin 8) : DmaSem sig :=
  ((a.slice (Rect.unit (s := S8) ![h.val] S1.size (inb8 h))).squeeze S_ squeezes_S1_S_).sem
/-- One semaphore of an array of seven. -/
abbrev sem7 (a : DmaSems sig S7) (h : Fin 7) : DmaSem sig :=
  ((a.slice (Rect.unit (s := S7) ![h.val] S1.size (inb7 h))).squeeze S_ squeezes_S1_S_).sem

/-- A query weights' slot sent to another device's slot. -/
def sendQ (dst : Dev nD) (s t : Fin 16) (ss rs : DmaSem sig) :
    Prog (TpuEff nD τ sig (Elt F) Λ₀ .tc) PUnit :=
  Prog.lift (.enqueueDma (slotQ arg6 s) (.remote (Dev.tc dst) (slotQ arg6 t) (.dma ss)) (.dma rs)
    ((harg6.wordExact_slice rfl _ (wordsQ s)).reshape _ _) ((harg6.wordExact_slice rfl _ (wordsQ t)).reshape _ _) ⟨⟨rfl, Or.inl rfl⟩, trivial⟩)
/-- An output weights' slot sent to another device's slot. -/
def sendO (dst : Dev nD) (s t : Fin 16) (ss rs : DmaSem sig) :
    Prog (TpuEff nD τ sig (Elt F) Λ₀ .tc) PUnit :=
  Prog.lift (.enqueueDma (slotO arg7 s) (.remote (Dev.tc dst) (slotO arg7 t) (.dma ss)) (.dma rs)
    ((harg7.wordExact_slice rfl _ (wordsO s)).reshape _ _) ((harg7.wordExact_slice rfl _ (wordsO t)).reshape _ _) ⟨⟨rfl, Or.inl rfl⟩, trivial⟩)
/-- A wait for a query weights' slot. -/
def waitQ (s t : Fin 16) (ws : DmaSem sig) : Prog (TpuEff nD τ sig (Elt F) Λ₀ .tc) PUnit :=
  Prog.lift (.waitDma2 ws (slotQ arg6 s) (slotQ arg6 t)
    ((harg6.wordExact_slice rfl _ (wordsQ s)).reshape _ _) ((harg6.wordExact_slice rfl _ (wordsQ t)).reshape _ _))
/-- A wait for an output weights' slot. -/
def waitO (s t : Fin 16) (ws : DmaSem sig) : Prog (TpuEff nD τ sig (Elt F) Λ₀ .tc) PUnit :=
  Prog.lift (.waitDma2 ws (slotO arg7 s) (slotO arg7 t)
    ((harg7.wordExact_slice rfl _ (wordsO s)).reshape _ _) ((harg7.wordExact_slice rfl _ (wordsO t)).reshape _ _))

variable (arg8 arg9 arg10 arg11 : DmaSems sig S8) (arg12 arg13 arg14 arg15 : DmaSems sig S7)

/-- The neighbour on the right, as the kernel computes it. -/
abbrev rgt (d0 : Dev nD) : Dev nD := ⟨k0_dev3 d0, k0_dev3_lt d0⟩
/-- The neighbour on the left, as the kernel computes it. -/
abbrev lft (d0 : Dev nD) : Dev nD := ⟨k0_dev5 d0, k0_dev5_lt d0⟩

/-- A rightward hop starts. -/
def startR (d0 : Dev nD) (h : Fin 8) : Prog (TpuEff nD τ sig (Elt F) Λ₀ .tc) PUnit := do
  sendQ arg6 harg6 (rgt d0) (rsrc h) (rdst h) (sem8 arg8 h) (sem8 arg9 h)
  sendO arg7 harg7 (rgt d0) (rsrc h) (rdst h) (sem8 arg10 h) (sem8 arg11 h)
/-- A leftward hop starts. -/
def startL (d0 : Dev nD) (h : Fin 7) : Prog (TpuEff nD τ sig (Elt F) Λ₀ .tc) PUnit := do
  sendQ arg6 harg6 (lft d0) (lsrc h) (ldst h) (sem7 arg12 h) (sem7 arg13 h)
  sendO arg7 harg7 (lft d0) (lsrc h) (ldst h) (sem7 arg14 h) (sem7 arg15 h)
/-- What the left neighbour's rightward hop sent has arrived. -/
def recvR (h : Fin 8) : Prog (TpuEff nD τ sig (Elt F) Λ₀ .tc) PUnit := do
  waitQ arg6 harg6 (rsrc h) (rdst h) (sem8 arg9 h)
  waitO arg7 harg7 (rsrc h) (rdst h) (sem8 arg11 h)
/-- What the right neighbour's leftward hop sent has arrived. -/
def recvL (h : Fin 7) : Prog (TpuEff nD τ sig (Elt F) Λ₀ .tc) PUnit := do
  waitQ arg6 harg6 (lsrc h) (ldst h) (sem7 arg13 h)
  waitO arg7 harg7 (lsrc h) (ldst h) (sem7 arg15 h)
/-- A rightward hop's source has been read. -/
def sentR (h : Fin 8) : Prog (TpuEff nD τ sig (Elt F) Λ₀ .tc) PUnit := do
  waitQ arg6 harg6 (rdst h) (rsrc h) (sem8 arg8 h)
  waitO arg7 harg7 (rdst h) (rsrc h) (sem8 arg10 h)
/-- A leftward hop's source has been read. -/
def sentL (h : Fin 7) : Prog (TpuEff nD τ sig (Elt F) Λ₀ .tc) PUnit := do
  waitQ arg6 harg6 (ldst h) (lsrc h) (sem7 arg12 h)
  waitO arg7 harg7 (ldst h) (lsrc h) (sem7 arg14 h)

/-- A round with both directions before and after it. -/
def fullRound (d0 : Dev nD) (m : IVec S256x256 1) (x : FVec F S512x512 .bf16) (h : Fin 6) (acc : FVec F S512x512 .f32) :
    Prog (TpuEff nD τ sig (Elt F) Λ₀ .tc) (FVec F S512x512 .f32) := do
  recvR arg6 harg6 arg7 harg7 arg9 arg11 ⟨h.val, by omega⟩
  recvL arg6 harg6 arg7 harg7 arg13 arg15 ⟨h.val, by omega⟩
  startR arg6 harg6 arg7 harg7 arg8 arg9 arg10 arg11 d0 ⟨h.val + 1, by omega⟩
  startL arg6 harg6 arg7 harg7 arg12 arg13 arg14 arg15 d0 ⟨h.val + 1, by omega⟩
  sentR arg6 harg6 arg7 harg7 arg8 arg10 ⟨h.val, by omega⟩
  sentL arg6 harg6 arg7 harg7 arg12 arg14 ⟨h.val, by omega⟩
  let acc ← contrib arg3 arg4 arg6 arg7 d0 m x ⟨15 - h.val, by omega⟩ acc
  contrib arg3 arg4 arg6 arg7 d0 m x ⟨h.val + 1, by omega⟩ acc

end steps

/-- The barrier's semaphore. -/
abbrev barS : Sems sig S_ := SemArray.scalar (sig.barrier 0 rfl)

/-- The kernel's body. -/
def clean (arg0 : Memref sig .tc .vmem S2x256x512 .bf16) (harg0 : arg0.IsWhole) (arg1 : Memref sig .tc .vmem S512x256 .bf16) (harg1 : arg1.IsWhole) (arg2 : Memref sig .tc .vmem S256x512 .bf16) (harg2 : arg2.IsWhole) (arg3 : Memref sig .tc .vmem S64x2x256x64 .bf16) (harg3 : arg3.IsWhole) (arg4 : Memref sig .tc .vmem S64x2x256x64 .bf16) (harg4 : arg4.IsWhole) (arg5 : Memref sig .tc .vmem S2x256x512 .f32) (harg5 : arg5.IsWhole) (arg6 : Memref sig .tc .vmem S16x512x256 .bf16) (harg6 : arg6.IsWhole) (arg7 : Memref sig .tc .vmem S16x256x512 .bf16) (harg7 : arg7.IsWhole) (arg8 : DmaSems sig S8) (arg9 : DmaSems sig S8) (arg10 : DmaSems sig S8) (arg11 : DmaSems sig S8) (arg12 : DmaSems sig S7) (arg13 : DmaSems sig S7) (arg14 : DmaSems sig S7) (arg15 : DmaSems sig S7) (v4336_r0 : Sems sig S_) :
    Prog (TpuEff nD τ sig (Elt F) Λ₀ .tc) PUnit := do
  let d0 : Dev nD ← Prog.lift .deviceId
  semSignalWord (lft d0) barS.sem 1#32
  semSignalWord (rgt d0) barS.sem 1#32
  semWaitWord barS.sem 2#32
  let v13 : Vec F S512x256 .bf16 ← Prog.lift (.load arg1 (Rect.unit (s := S512x256) ![0, 0] S512x256.size inb_S512x256_S512x256_0_0).toLoadRect (View.loadsAt_vmem h_S512x256))
  let _v15 : Vec F S1x512x256 .bf16 ← Prog.lift (.load arg6 (rectQ 0).toLoadRect (View.loadsAt_vmem h_S1x512x256))
  Prog.lift (.store arg6 (rectQ 0) (k0_pay1 v13) Finset.univ (View.stores_vmem h_S1x512x256 (harg6.storeExact_slice rfl _ packedbf16_S16x512x256_S1x512x256_0_0_0) (fun _ => rfl)) (.inl rfl))
  let v18 : Vec F S256x512 .bf16 ← Prog.lift (.load arg2 (Rect.unit (s := S256x512) ![0, 0] S256x512.size inb_S256x512_S256x512_0_0).toLoadRect (View.loadsAt_vmem h_S256x512))
  let _v20 : Vec F S1x256x512 .bf16 ← Prog.lift (.load arg7 (rectO 0).toLoadRect (View.loadsAt_vmem h_S1x256x512))
  Prog.lift (.store arg7 (rectO 0) (k0_pay2 v18) Finset.univ (View.stores_vmem h_S1x256x512 (harg7.storeExact_slice rfl _ packedbf16_S16x256x512_S1x256x512_0_0_0) (fun _ => rfl)) (.inl rfl))
  let v74 : Vec F S2x256x512 .bf16 ← Prog.lift (.load arg0 (Rect.unit (s := S2x256x512) ![0, 0, 0] S2x256x512.size inb_S2x256x512_S2x256x512_0_0_0).toLoadRect (View.loadsAt_vmem h_S2x256x512))
  let x : FVec F S512x512 .bf16 := shapeCast S512x512 (shapeCast S2x256x512 v74 shapeCasts_S2x256x512_S2x256x512 : FVec F S2x256x512 .bf16) shapeCasts_S2x256x512_S512x512
  startR arg6 harg6 arg7 harg7 arg8 arg9 arg10 arg11 d0 0
  startL arg6 harg6 arg7 harg7 arg12 arg13 arg14 arg15 d0 0
  let a ← contrib arg3 arg4 arg6 arg7 d0 maskV x 0 (broadcast S512x512 (Scalar.ofBits .f32 0x00000000#32))
  let a ← fullRound arg3 arg4 arg6 harg6 arg7 harg7 arg8 arg9 arg10 arg11 arg12 arg13 arg14 arg15 d0 maskV x 0 a
  let a ← fullRound arg3 arg4 arg6 harg6 arg7 harg7 arg8 arg9 arg10 arg11 arg12 arg13 arg14 arg15 d0 maskV x 1 a
  let a ← fullRound arg3 arg4 arg6 harg6 arg7 harg7 arg8 arg9 arg10 arg11 arg12 arg13 arg14 arg15 d0 maskV x 2 a
  let a ← fullRound arg3 arg4 arg6 harg6 arg7 harg7 arg8 arg9 arg10 arg11 arg12 arg13 arg14 arg15 d0 maskV x 3 a
  let a ← fullRound arg3 arg4 arg6 harg6 arg7 harg7 arg8 arg9 arg10 arg11 arg12 arg13 arg14 arg15 d0 maskV x 4 a
  let a ← fullRound arg3 arg4 arg6 harg6 arg7 harg7 arg8 arg9 arg10 arg11 arg12 arg13 arg14 arg15 d0 maskV x 5 a
  recvR arg6 harg6 arg7 harg7 arg9 arg11 6
  recvL arg6 harg6 arg7 harg7 arg13 arg15 6
  startR arg6 harg6 arg7 harg7 arg8 arg9 arg10 arg11 d0 7
  sentR arg6 harg6 arg7 harg7 arg8 arg10 6
  sentL arg6 harg6 arg7 harg7 arg12 arg14 6
  let a ← contrib arg3 arg4 arg6 arg7 d0 maskV x 9 a
  let a ← contrib arg3 arg4 arg6 arg7 d0 maskV x 7 a
  recvR arg6 harg6 arg7 harg7 arg9 arg11 7
  sentR arg6 harg6 arg7 harg7 arg8 arg10 7
  let a ← contrib arg3 arg4 arg6 arg7 d0 maskV x 8 a
  let _v4335 : Vec F S2x256x512 .f32 ← Prog.lift (.load arg5 (Rect.unit (s := S2x256x512) ![0, 0, 0] S2x256x512.size inb_S2x256x512_S2x256x512_0_0_0).toLoadRect (View.loadsAt_vmem h_S2x256x512))
  Prog.lift (.store arg5 (Rect.unit (s := S2x256x512) ![0, 0, 0] S2x256x512.size inb_S2x256x512_S2x256x512_0_0_0) (shapeCast S2x256x512 a shapeCasts_S512x512_S2x256x512 : FVec F S2x256x512 .f32) Finset.univ (View.stores_vmem_bits_univ h_S2x256x512 rfl) (.inl rfl))
  semSignalWord (lft d0) v4336_r0.sem 1#32
  semSignalWord (rgt d0) v4336_r0.sem 1#32
  semWaitWord v4336_r0.sem 2#32
  pure ⟨⟩

end Cert.KernelIdeal.K
end
end
-- ==== Proof.KI.Proto.lean ====
module

public import proofs.«01_k».proof.Proof.KI.Clean
public import proofs.«01_k».proof.Proof.Gen.KernelIdeal.Launch
public import Idealize.ShloMosaic.Lib.Rounds.Family

/-! The exchange's protocol: the cells of a device, what their rounds carry, the order of the waits. -/

@[expose] public section

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

def nxt (c : Dev nD) : Dev nD := ⟨(c.val + 1) % 16, Nat.mod_lt _ (by decide)⟩
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide
theorem nxt_ne (c : Dev nD) : nxt c ≠ c := by revert c; decide
theorem rgt_eq (c : Dev nD) : rgt c = nxt c := by revert c; decide
theorem lft_eq (c : Dev nD) : lft c = prv c := by revert c; decide
def ring : Dev nD ≃ Dev nD := ⟨nxt, prv, prv_nxt, nxt_prv⟩

/-- The device whose block slot `s` of device `c` holds. -/
def own (c : Dev nD) (s : Fin 16) : Dev nD := ⟨(c.val + s.val) % 16, Nat.mod_lt _ (by decide)⟩
theorem own_zero (c : Dev nD) : own c 0 = c := by revert c; decide

/-! ## The hops -/

/-- A hop: rightward or leftward, by number. -/
abbrev Hop : Type := Fin 8 ⊕ Fin 7
/-- Where a device's hop goes, and where the hop that lands at the device comes from. -/
def tgt (c : Dev nD) : Hop → Dev nD | .inl _ => nxt c | .inr _ => prv c
def frm (c : Dev nD) : Hop → Dev nD | .inl _ => prv c | .inr _ => nxt c
theorem tgt_frm (c : Dev nD) (k : Hop) : tgt (frm c k) k = c := by cases k <;> first | exact nxt_prv c | exact prv_nxt c
theorem frm_tgt (c : Dev nD) (k : Hop) : frm (tgt c k) k = c := by cases k <;> first | exact nxt_prv c | exact prv_nxt c
def hsrc : Hop → Fin 16 | .inl h => rsrc h | .inr h => lsrc h
def hdst : Hop → Fin 16 | .inl h => rdst h | .inr h => ldst h
/-- A hop's number. -/
def hno : Hop → ℕ | .inl h => h.val | .inr h => h.val
theorem own_hop (c : Dev nD) (k : Hop) : own (tgt c k) (hdst k) = own c (hsrc k) := by
  rcases k with h | h <;> (revert h; revert c; decide)

/-- A hop's semaphores: on its source (`false`) or at its destination (`true`), of the query weights (`false`) or the output weights (`true`). -/
def hsem : Hop → Bool → Bool → DmaSem sig
  | .inl h, false, false => sem8 cc0_scratch2 h
  | .inl h, true, false => sem8 cc0_scratch3 h
  | .inl h, false, true => sem8 cc0_scratch4 h
  | .inl h, true, true => sem8 cc0_scratch5 h
  | .inr h, false, false => sem7 cc0_scratch6 h
  | .inr h, true, false => sem7 cc0_scratch7 h
  | .inr h, false, true => sem7 cc0_scratch8 h
  | .inr h, true, true => sem7 cc0_scratch9 h

/-- A device's own semaphores: the last barrier's, and each hop's four. -/
abbrev OS : Type := Option (Hop × Bool × Bool)
abbrev finS : Sems sig S_ := cc0_scoped0
def osem : OS → SemLoc sig
  | none => .reg finS.sem
  | some (k, r, o) => .dma (hsem k r o)

theorem hsem_val : ∀ (k : Hop) (r o : Bool), (hsem k r o).val
    = (match k with
      | .inl h => 6 + (if r then 8 else 0) + (if o then 16 else 0) + h.val
      | .inr h => 38 + (if r then 7 else 0) + (if o then 14 else 0) + h.val) := by
  rintro (h | h) (_ | _) (_ | _) <;> (revert h; decide)

theorem hsem_inj {k k' : Hop} {r r' o o' : Bool} (h : hsem k r o = hsem k' r' o') : (k, r, o) = (k', r', o') := by
  have h' := congrArg Fin.val h
  rw [hsem_val, hsem_val] at h'
  rcases k with a | a <;> rcases k' with b | b <;> cases r <;> cases r' <;> cases o <;> cases o' <;>
    simp at h' <;>
    first
    | (exfalso; omega)
    | (have : a = b := Fin.ext (by omega)
       subst this; rfl)

theorem osem_inj : Function.Injective osem := by
  rintro (_ | ⟨k, r, o⟩) (_ | ⟨k', r', o'⟩) h
  · rfl
  · exact absurd h (fun h => by cases h)
  · exact absurd h (fun h => by cases h)
  · exact congrArg some (hsem_inj (SemLoc.dma.inj h))

theorem osem_ne_bar (k : OS) : osem k ≠ .reg barS.sem := by
  rcases k with _ | ⟨k, r, o⟩
  · exact fun h => absurd h (by decide)
  · exact fun h => by cases h

/-- Which of the own semaphores a semaphore is. -/
def dec (sm : SemLoc sig) : Option OS := by
  classical exact if h : ∃ k, osem k = sm then some h.choose else none
theorem dec_osem (k : OS) : dec (osem k) = some k := by
  classical
  unfold dec
  have h : ∃ k', osem k' = osem k := ⟨k, rfl⟩
  rw [dif_pos h]
  exact congrArg some (osem_inj h.choose_spec)
theorem dec_bar : dec (.reg barS.sem) = none := by
  classical
  unfold dec
  exact dif_neg fun ⟨k, h⟩ => osem_ne_bar k h

/-! ## The cells -/

abbrev barCell (c : Dev nD) : GSem nD τ sig := ((c : Thread nD τ), .reg barS.sem)
abbrev oCell (c : Dev nD) (k : OS) : GSem nD τ sig := ((c : Thread nD τ), osem k)
abbrev xCell (c : Dev nD) (k : Hop) (r o : Bool) : GSem nD τ sig := ((c : Thread nD τ), .dma (hsem k r o))
abbrev finCell (c : Dev nD) : GSem nD τ sig := ((c : Thread nD τ), .reg finS.sem)

/-! ## The gather buffers -/

abbrev QM : Memref sig .tc .vmem S16x512x256 .bf16 := Memref.whole cc0_scratch0
abbrev OM : Memref sig .tc .vmem S16x256x512 .bf16 := Memref.whole cc0_scratch1
abbrev sQ (s : Fin 16) : Memref sig .tc .vmem S512x256 .bf16 := slotQ QM s
abbrev sO (s : Fin 16) : Memref sig .tc .vmem S256x512 .bf16 := slotO OM s

/-- The credit of one slot's copy, by which buffer. -/
def NN : Bool → ℕ
  | false => (sQ 0).view.dmaCredit
  | true => (sO 0).view.dmaCredit
theorem NN_pos (o : Bool) : 0 < NN o := by cases o <;> exact View.dmaCredit_pos _ (by decide)
theorem sQ_credit (s : Fin 16) : (sQ s).view.dmaCredit = NN false := rfl
theorem sO_credit (s : Fin 16) : (sO s).view.dmaCredit = NN true := rfl

abbrev QTy : Type := (cc0_scratch0 : Ref sig .tc).ty.Contents (Elt F)
abbrev OTy : Type := (cc0_scratch1 : Ref sig .tc).ty.Contents (Elt F)

/-- Slot `s` of device `c`'s query weights' buffer, at a share and contents. -/
def qPt (c : Dev nD) (s : Fin 16) (q : PosShare TreeShare) (f : Buf (Elt F) ((sQ s).view.loc (c : Thread nD τ))) : sProp 𝕄 :=
  (sQ s).view.loc (c : Thread nD τ) ↦[(sQ s).view.set]{q} f
def oPt (c : Dev nD) (s : Fin 16) (q : PosShare TreeShare) (f : Buf (Elt F) ((sO s).view.loc (c : Thread nD τ))) : sProp 𝕄 :=
  (sO s).view.loc (c : Thread nD τ) ↦[(sO s).view.set]{q} f

instance qPt_storable (c : Dev nD) (s q f) : BI.Storable (upEmb : UEmb _ 𝕄) (qPt (F := F) c s q f) := by unfold qPt; infer_instance
instance oPt_storable (c : Dev nD) (s q f) : BI.Storable (upEmb : UEmb _ 𝕄) (oPt (F := F) c s q f) := by unfold oPt; infer_instance

/-- An index of a buffer of sixteen slots as an index of one slot. -/
def underQ (i : S16x512x256.Idx) : S1x512x256.Idx := fun a => match a with
  | 0 => ⟨0, by decide⟩
  | 1 => i 1
  | 2 => i 2
def underO (i : S16x256x512.Idx) : S1x256x512.Idx := fun a => match a with
  | 0 => ⟨0, by decide⟩
  | 1 => i 1
  | 2 => i 2

section Contents

variable (A : Dev nD → Vec F S512x256 .bf16) (B : Dev nD → Vec F S256x512 .bf16)

/-- What device `d` puts in its slot 0. -/
abbrev blkQ (d : Dev nD) : Vec F S1x512x256 .bf16 := k0_pay1 (A d)
abbrev blkO (d : Dev nD) : Vec F S1x256x512 .bf16 := k0_pay2 (B d)

/-- What device `c`'s buffers hold once every slot has landed. -/
def qbuf (c : Dev nD) : S16x512x256.Idx → Elt F .bf16 := fun i => blkQ A (own c (i 0)) (underQ i)
def obuf (c : Dev nD) : S16x256x512.Idx → Elt F .bf16 := fun i => blkO B (own c (i 0)) (underO i)

theorem qbuf_rect (c : Dev nD) (s : Fin 16) (j : S1x512x256.Idx) : qbuf A c ((rectQ s).emb j) = blkQ A (own c s) j := by
  have h0 : (rectQ s).emb j 0 = s := Fin.ext (by
    rw [Rect.emb_apply]
    have : (j 0).val < 1 := (j 0).isLt
    show s.val + 1 * (j 0).val = s.val
    omega)
  have h1 : underQ ((rectQ s).emb j) = j := funext fun a => Fin.ext (match a with
    | 0 => by have : (j 0).val < 1 := (j 0).isLt
              show 0 = (j 0).val; omega
    | 1 => by show 0 + 1 * (j 1).val = (j 1).val; omega
    | 2 => by show 0 + 1 * (j 2).val = (j 2).val; omega)
  unfold qbuf
  rw [h1]
  exact congrArg (fun t => blkQ A (own c t) j) h0
theorem obuf_rect (c : Dev nD) (s : Fin 16) (j : S1x256x512.Idx) : obuf B c ((rectO s).emb j) = blkO B (own c s) j := by
  have h0 : (rectO s).emb j 0 = s := Fin.ext (by
    rw [Rect.emb_apply]
    have : (j 0).val < 1 := (j 0).isLt
    show s.val + 1 * (j 0).val = s.val
    omega)
  have h1 : underO ((rectO s).emb j) = j := funext fun a => Fin.ext (match a with
    | 0 => by have : (j 0).val < 1 := (j 0).isLt
              show 0 = (j 0).val; omega
    | 1 => by show 0 + 1 * (j 1).val = (j 1).val; omega
    | 2 => by show 0 + 1 * (j 2).val = (j 2).val; omega)
  unfold obuf
  rw [h1]
  exact congrArg (fun t => blkO B (own c t) j) h0

theorem load_q (c : Dev nD) (s : Fin 16) : (QM).view.readAt (Elt F) (rectQ s).toLoadRect (qbuf A c) = blkQ A (own c s) :=
  funext fun j => qbuf_rect A c s j
theorem load_o (c : Dev nD) (s : Fin 16) : (OM).view.readAt (Elt F) (rectO s).toLoadRect (obuf B c) = blkO B (own c s) :=
  funext fun j => obuf_rect B c s j

/-- A copy of a slot holding a device's block leaves the destination's slot holding the same block. -/
theorem landed_q (c d : Dev nD) (s t : Fin 16) (h : own d t = own c s) (fd : (sQ t).view.ty.Contents (Elt F)) :
    ∀ i ∈ (sQ t).view.set, (sQ t).view.write (Elt F) fd ((sQ s).view.read (Elt F) (qbuf A c)) Finset.univ i = qbuf A d i := by
  intro i hi
  obtain ⟨x, -, rfl⟩ := Finset.mem_map.mp hi
  rw [View.write_emb, if_pos (Finset.mem_univ _)]
  · show qbuf A c ((rectQ s).emb (Shape.reshapeEquiv _ x)) = qbuf A d ((rectQ t).emb (Shape.reshapeEquiv _ x))
    rw [qbuf_rect, qbuf_rect, h]
theorem landed_o (c d : Dev nD) (s t : Fin 16) (h : own d t = own c s) (fd : (sO t).view.ty.Contents (Elt F)) :
    ∀ i ∈ (sO t).view.set, (sO t).view.write (Elt F) fd ((sO s).view.read (Elt F) (obuf B c)) Finset.univ i = obuf B d i := by
  intro i hi
  obtain ⟨x, -, rfl⟩ := Finset.mem_map.mp hi
  rw [View.write_emb, if_pos (Finset.mem_univ _)]
  · show obuf B c ((rectO s).emb (Shape.reshapeEquiv _ x)) = obuf B d ((rectO t).emb (Shape.reshapeEquiv _ x))
    rw [obuf_rect, obuf_rect, h]

/-- A store of a device's block in slot 0. -/
theorem stored_q (c : Dev nD) (fd : (sQ 0).view.ty.Contents (Elt F)) :
    ∀ i ∈ (sQ 0).view.set, (QM.access (rectQ 0)).write (Elt F) fd (blkQ A c) Finset.univ i = qbuf A c i := by
  intro i hi
  obtain ⟨x, -, rfl⟩ := Finset.mem_map.mp hi
  have := View.write_emb (v := QM.access (rectQ 0)) (Val := Elt F) fd (blkQ A c) Finset.univ (Shape.reshapeEquiv squeezes_S1x512x256_S512x256.numel_eq x)
  rw [if_pos (Finset.mem_univ _)] at this
  refine Eq.trans this ?_
  show blkQ A c _ = qbuf A c ((rectQ 0).emb (Shape.reshapeEquiv _ x))
  rw [qbuf_rect, own_zero]
theorem stored_o (c : Dev nD) (fd : (sO 0).view.ty.Contents (Elt F)) :
    ∀ i ∈ (sO 0).view.set, (OM.access (rectO 0)).write (Elt F) fd (blkO B c) Finset.univ i = obuf B c i := by
  intro i hi
  obtain ⟨x, -, rfl⟩ := Finset.mem_map.mp hi
  have := View.write_emb (v := OM.access (rectO 0)) (Val := Elt F) fd (blkO B c) Finset.univ (Shape.reshapeEquiv squeezes_S1x256x512_S256x512.numel_eq x)
  rw [if_pos (Finset.mem_univ _)] at this
  refine Eq.trans this ?_
  show blkO B c _ = obuf B c ((rectO 0).emb (Shape.reshapeEquiv _ x))
  rw [obuf_rect, own_zero]

/-! ## Shares -/

/-- A slot's share is cut in three: lent to the rightward hop, lent to the leftward hop, kept for the device's own loads. -/
abbrev shA : PosShare TreeShare := fullShare.left
abbrev shB : PosShare TreeShare := fullShare.right.left
abbrev shC : PosShare TreeShare := fullShare.right.right
/-- The share a hop lends. -/
def hsh : Hop → PosShare TreeShare | .inl _ => shA | .inr _ => shB

/-- Slot `s` of both buffers of device `c`, landed, at a share. -/
def slot (c : Dev nD) (s : Fin 16) (q : PosShare TreeShare) : sProp 𝕄 := iprop(qPt c s q (qbuf A c) ∗ oPt c s q (obuf B c))
/-- Slot `s` of both buffers at contents not chosen. -/
def free (c : Dev nD) (s : Fin 16) : sProp 𝕄 := iprop((∃ f, qPt (F := F) c s fullShare f) ∗ ∃ f, oPt (F := F) c s fullShare f)

/-! ## The schedule -/

/-- What a device hands the one that hops to it: the slot, and that its receive cells are open. -/
def give (d : Dev nD) (k : Hop) : sProp 𝕄 :=
  iprop(free d (hdst k) ∗ reached ER (xCell d k true false) 0 ∗ reached ER (xCell d k true true) 0)
/-- The barrier's payload from the right neighbour, and from the left one. -/
def barPayT (c : Dev nD) : sProp 𝕄 :=
  iprop((bigSep Finset.univ fun h : Fin 8 => give (F := F) (nxt c) (.inl h)) ∗ reached ER (finCell (nxt c)) 0)
def barPayF (c : Dev nD) : sProp 𝕄 :=
  iprop((bigSep Finset.univ fun h : Fin 7 => give (F := F) (prv c) (.inr h)) ∗ reached ER (finCell (prv c)) 0)

/-- A hop's payloads: at the destination the landed slot, at the source the lent share. -/
def hopPay (c : Dev nD) (k : Hop) : Bool → Bool → sProp 𝕄
  | false, false => qPt c (hsrc k) (hsh k) (qbuf A c)
  | false, true => oPt c (hsrc k) (hsh k) (obuf B c)
  | true, false => qPt c (hdst k) fullShare (qbuf A c)
  | true, true => oPt c (hdst k) fullShare (obuf B c)

def ownPay (c : Dev nD) : Option OS → sProp 𝕄
  | some (some (k, r, o)) => hopPay A B c k r o
  | _ => iprop(emp)

def rd : Rounds.Schedule (GSem nD τ sig) Bool 𝕄 where
  duties g r := if r = 0 ∧ g.1.2 = .tc then
      (if g.2 = .reg barS.sem ∨ g.2 = .reg finS.sem then Finset.univ else if (dec g.2).isSome then {false} else ∅)
    else ∅
  unitless _ := False
  amount g _ _ := match dec g.2 with
    | some (some (_, _, o)) => NN o
    | _ => 1
  payload g _ d := if g.2 = .reg barS.sem then (if d then barPayT g.1.1 else barPayF g.1.1) else ownPay A B g.1.1 (dec g.2)
  amount_pos g _ _ _ := by
    split
    · exact NN_pos _
    · exact Nat.one_pos

instance give_storable (d : Dev nD) (k : Hop) : BI.Storable (upEmb : UEmb _ 𝕄) (give (F := F) d k) := by unfold give free; infer_instance

instance rd_storable (g : GSem nD τ sig) (r : ℕ) (d : Bool) : BI.Storable (upEmb : UEmb _ 𝕄) ((rd (F := F) A B).payload g r d) := by
  show BI.Storable upEmb (if g.2 = .reg barS.sem then (if d then barPayT g.1.1 else barPayF g.1.1) else ownPay A B g.1.1 (dec g.2))
  unfold barPayT barPayF ownPay
  split
  · split <;> infer_instance
  · split
    · rename_i k r o _
      cases r <;> cases o <;> (unfold hopPay; infer_instance)
    · infer_instance

theorem rd_duties (g : GSem nD τ sig) (r : ℕ) : (rd (F := F) A B).duties g r = if r = 0 ∧ g.1.2 = .tc then
      (if g.2 = .reg barS.sem ∨ g.2 = .reg finS.sem then Finset.univ else if (dec g.2).isSome then {false} else ∅)
    else ∅ := rfl
theorem rd_payload (g : GSem nD τ sig) (r : ℕ) (d : Bool) : (rd (F := F) A B).payload g r d =
    if g.2 = .reg barS.sem then (if d then barPayT g.1.1 else barPayF g.1.1) else ownPay A B g.1.1 (dec g.2) := rfl

section Tables

variable (c : Dev nD) (k : Hop) (r o : Bool) (d : Bool)

theorem dec_x : dec (.dma (hsem k r o)) = some (some (k, r, o)) := dec_osem (some (k, r, o))
theorem dec_fin : dec (.reg finS.sem) = some none := dec_osem none

theorem duties_bar : (rd (F := F) A B).duties (barCell c) 0 = Finset.univ := by
  rw [rd_duties, if_pos ⟨rfl, rfl⟩, if_pos (.inl rfl)]
theorem duties_fin : (rd (F := F) A B).duties (finCell c) 0 = Finset.univ := by
  rw [rd_duties, if_pos ⟨rfl, rfl⟩, if_pos (.inr rfl)]
theorem duties_x : (rd (F := F) A B).duties (xCell c k r o) 0 = {false} := by
  rw [rd_duties, if_pos ⟨rfl, rfl⟩, if_neg (fun h => by rcases h with h | h <;> cases h), if_pos (by rw [dec_x]; rfl)]
theorem duties_later (g : GSem nD τ sig) : ∀ r, 1 ≤ r → (rd (F := F) A B).duties g r = ∅ :=
  fun r hr => if_neg fun h => by omega

theorem amount_bar : (rd (F := F) A B).amount (barCell c) 0 d = 1 := by
  show (match dec (.reg barS.sem) with | some (some (_, _, o)) => NN o | _ => 1) = 1
  rw [dec_bar]
theorem amount_fin : (rd (F := F) A B).amount (finCell c) 0 d = 1 := by
  show (match dec (.reg finS.sem) with | some (some (_, _, o)) => NN o | _ => 1) = 1
  rw [dec_fin]
theorem amount_x : (rd (F := F) A B).amount (xCell c k r o) 0 d = NN o := by
  show (match dec (.dma (hsem k r o)) with | some (some (_, _, o)) => NN o | _ => 1) = NN o
  rw [dec_x]

theorem expect_bar : (rd (F := F) A B).expect (barCell c) 0 = 2 := by
  unfold Schedule.expect Schedule.amountOf
  rw [duties_bar, Finset.sum_congr rfl fun d _ => amount_bar A B c d, Finset.sum_const, Finset.card_univ, Fintype.card_bool, smul_eq_mul]
theorem expect_fin : (rd (F := F) A B).expect (finCell c) 0 = 2 := by
  unfold Schedule.expect Schedule.amountOf
  rw [duties_fin, Finset.sum_congr rfl fun d _ => amount_fin A B c d, Finset.sum_const, Finset.card_univ, Fintype.card_bool, smul_eq_mul]
theorem expect_x : (rd (F := F) A B).expect (xCell c k r o) 0 = NN o := by
  unfold Schedule.expect Schedule.amountOf; rw [duties_x, Finset.sum_singleton, amount_x]

theorem payload_bar_true : (rd (F := F) A B).payload (barCell c) 0 true = barPayT c := by
  rw [rd_payload, if_pos rfl, if_pos rfl]
theorem payload_bar_false : (rd (F := F) A B).payload (barCell c) 0 false = barPayF c := by
  rw [rd_payload, if_pos rfl, if_neg Bool.false_ne_true]
theorem payload_fin : (rd (F := F) A B).payload (finCell c) 0 d = iprop(emp) := by
  rw [rd_payload, if_neg (show ¬ (SemLoc.reg finS.sem : SemLoc sig) = .reg barS.sem from osem_ne_bar none), dec_fin]; rfl
theorem payload_x : (rd (F := F) A B).payload (xCell c k r o) 0 d = hopPay A B c k r o := by
  rw [rd_payload, if_neg (fun h => by cases h), dec_x]; rfl

theorem rest_bar : bigSep ((rd (F := F) A B).duties (barCell c) 0 \ ∅) (fun d => (rd (F := F) A B).payload (barCell c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
theorem rest_x : bigSep ((rd (F := F) A B).duties (xCell c k r o) 0 \ ∅) (fun d => (rd (F := F) A B).payload (xCell c k r o) 0 d) = hopPay A B c k r o := by
  rw [Finset.sdiff_empty, duties_x, bigSep_singleton, payload_x]

end Tables

end Contents

/-! ## What each device owes at launch; the levels -/

/-- What is owed for a hop, above what is owed after it. -/
def hopO (c : Dev nD) (k : Hop) (O : CellTallies nD τ sig Unit) : CellTallies nD τ sig Unit :=
  O + tallyAt (xCell (tgt c k) k true true) () (NN true) + tallyAt (xCell (tgt c k) k true false) () (NN false)
/-- What is owed for the hops of a list, in order. -/
def hopsO (c : Dev nD) : List Hop → CellTallies nD τ sig Unit → CellTallies nD τ sig Unit
  | [], O => O
  | k :: l, O => hopO c k (hopsO c l O)
/-- The hops in the order they start. -/
def order : List Hop :=
  [.inl 0, .inr 0, .inl 1, .inr 1, .inl 2, .inr 2, .inl 3, .inr 3, .inl 4, .inr 4, .inl 5, .inr 5, .inl 6, .inr 6, .inl 7]
/-- What is owed to the last barrier. -/
def finO₁ (c : Dev nD) : CellTallies nD τ sig Unit := 0 + tallyAt (finCell (nxt c)) () 1
def finO (c : Dev nD) : CellTallies nD τ sig Unit := finO₁ c + tallyAt (finCell (prv c)) () 1
def O₂ (c : Dev nD) : CellTallies nD τ sig Unit := hopsO c order (finO c)
def O₁ (c : Dev nD) : CellTallies nD τ sig Unit := O₂ c + tallyAt (barCell (nxt c)) () 1
def O₀ (c : Dev nD) : CellTallies nD τ sig Unit := O₁ c + tallyAt (barCell (prv c)) () 1

def L (g : GSem nD τ sig) : Finset Unit := if g.1.2 = .tc then {()} else ∅
def lv (g : GSem nD τ sig) (_ : Unit) : ℕ :=
  if g.2 = .reg barS.sem then 1 else match dec g.2 with
    | some none => 100
    | some (some (k, true, _)) => 2 + hno k
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_fin (c : Dev nD) (u : Unit) : lv (finCell c) u = 100 := by
  unfold lv; rw [if_neg (show ¬ (SemLoc.reg finS.sem : SemLoc sig) = .reg barS.sem from osem_ne_bar none), dec_fin]
theorem lv_recv (c : Dev nD) (k : Hop) (o : Bool) (u : Unit) : lv (xCell c k true o) u = 2 + hno k := by
  unfold lv; rw [if_neg (fun h => by cases h), dec_x]
theorem lv_send (c : Dev nD) (k : Hop) (o : Bool) (u : Unit) : lv (xCell c k false o) u = 0 := by
  unfold lv; rw [if_neg (fun h => by cases h), dec_x]

/-- Everything owed is at a cell of a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O : CellTallies nD τ sig Unit} (h : Above n O) (c : Dev nD) (sm : SemLoc sig) (k : ℕ) (hl : n < lv ((c : Thread nD τ), sm) ()) :
    Above n (O + tallyAt ((c : Thread nD τ), sm) () k) := fun g u hg => by
  rw [Pi.add_apply, Finsupp.add_apply, tallyAt_apply] at hg
  by_cases hc : g = ((c : Thread nD τ), sm) ∧ u = ()
  · rw [hc.1]; exact ⟨rfl, hl⟩
  · rw [if_neg hc] at hg; exact h g u hg
theorem above_hopO {n : ℕ} {O : CellTallies nD τ sig Unit} (h : Above n O) (c : Dev nD) (k : Hop) (hk : n < 2 + hno k) : Above n (hopO c k O) :=
  above_add (above_add h _ _ _ (by rw [lv_recv]; exact hk)) _ _ _ (by rw [lv_recv]; exact hk)
theorem above_hopsO {n : ℕ} {O : CellTallies nD τ sig Unit} (h : Above n O) (c : Dev nD) : ∀ l : List Hop, (∀ k ∈ l, n < 2 + hno k) → Above n (hopsO c l O)
  | [], _ => h
  | k :: l, hl => above_hopO (above_hopsO h c l fun k hk => hl k (List.mem_cons_of_mem _ hk)) c k (hl k List.mem_cons_self)
theorem above_finO {n : ℕ} (hn : n < 100) (c : Dev nD) : Above n (finO c) :=
  above_add (above_add (above_zero n) _ _ _ (by rw [lv_fin]; exact hn)) _ _ _ (by rw [lv_fin]; exact hn)
theorem above_O₂ {n : ℕ} (hn : n < 2) (c : Dev nD) : Above n (O₂ c) :=
  above_hopsO (above_finO (by omega) c) c _ fun k _ => by omega
theorem above_O₀ (c : Dev nD) : Above 0 (O₀ c) :=
  above_add (above_add (above_O₂ (by omega) c) _ _ _ (by rw [lv_bar]; omega)) _ _ _ (by rw [lv_bar]; omega)

theorem mayWait_of (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdeal.K
end
end
-- ==== Proof.KI.Steps.lean ====
module

public import proofs.«01_k».proof.Proof.KI.Proto

/-! One rule for each kind of step of the body, at a symbolic hop and a symbolic slot. -/

@[expose] public section

set_option synthInstance.maxSize 4096

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## The steps of a hop at a symbolic hop -/

def startH (n : Dev nD) (k : Hop) : Prog (TpuEff nD τ sig (Elt F) Λ₀ .tc) PUnit := do
  sendQ QM (Memref.isWhole_whole _) n (hsrc k) (hdst k) (hsem k false false) (hsem k true false)
  sendO OM (Memref.isWhole_whole _) n (hsrc k) (hdst k) (hsem k false true) (hsem k true true)
def recvH (k : Hop) : Prog (TpuEff nD τ sig (Elt F) Λ₀ .tc) PUnit := do
  waitQ QM (Memref.isWhole_whole _) (hsrc k) (hdst k) (hsem k true false)
  waitO OM (Memref.isWhole_whole _) (hsrc k) (hdst k) (hsem k true true)
def sentH (k : Hop) : Prog (TpuEff nD τ sig (Elt F) Λ₀ .tc) PUnit := do
  waitQ QM (Memref.isWhole_whole _) (hdst k) (hsrc k) (hsem k false false)
  waitO OM (Memref.isWhole_whole _) (hdst k) (hsrc k) (hsem k false true)

theorem startR_eq (c : Dev nD) (h : Fin 8) :
    startR (F := F) QM (Memref.isWhole_whole _) OM (Memref.isWhole_whole _) cc0_scratch2 cc0_scratch3 cc0_scratch4 cc0_scratch5 c h = startH (tgt c (.inl h)) (.inl h) := by
  unfold startR; rw [rgt_eq]; rfl
theorem startL_eq (c : Dev nD) (h : Fin 7) :
    startL (F := F) QM (Memref.isWhole_whole _) OM (Memref.isWhole_whole _) cc0_scratch6 cc0_scratch7 cc0_scratch8 cc0_scratch9 c h = startH (tgt c (.inr h)) (.inr h) := by
  unfold startL; rw [lft_eq]; rfl
theorem recvR_eq (h : Fin 8) :
    recvR (F := F) QM (Memref.isWhole_whole _) OM (Memref.isWhole_whole _) cc0_scratch3 cc0_scratch5 h = recvH (.inl h) := rfl
theorem recvL_eq (h : Fin 7) :
    recvL (F := F) QM (Memref.isWhole_whole _) OM (Memref.isWhole_whole _) cc0_scratch7 cc0_scratch9 h = recvH (.inr h) := rfl
theorem sentR_eq (h : Fin 8) :
    sentR (F := F) QM (Memref.isWhole_whole _) OM (Memref.isWhole_whole _) cc0_scratch2 cc0_scratch4 h = sentH (.inl h) := rfl
theorem sentL_eq (h : Fin 7) :
    sentL (F := F) QM (Memref.isWhole_whole _) OM (Memref.isWhole_whole _) cc0_scratch6 cc0_scratch8 h = sentH (.inr h) := rfl

section WithContents

variable (A : Dev nD → Vec F S512x256 .bf16) (B : Dev nD → Vec F S256x512 .bf16)
variable (κ : GSem nD τ sig → ℕ)

/-! ## What the steps hold -/

def Inv : sProp 𝕄 := iprop((bigSep Finset.univ fun c : Dev nD => cellInv ER (rd A B) (κ (barCell c)) (barCell c))
  ∗ bigSep Finset.univ fun p : Dev nD × OS => cellInv ER (rd A B) (κ (oCell p.1 p.2)) (oCell p.1 p.2))
instance Inv_persistent : BI.Persistent (Inv A B κ) := by unfold Inv; infer_instance
theorem Inv_bar (c : Dev nD) : Inv A B κ ⊢ cellInv ER (rd A B) (κ (barCell c)) (barCell c) :=
  sep_elim_left.trans (bigSep_elim (Φ := fun c : Dev nD => cellInv ER (rd A B) (κ (barCell c)) (barCell c)) (Finset.mem_univ c))
theorem Inv_own (c : Dev nD) (k : OS) : Inv A B κ ⊢ cellInv ER (rd A B) (κ (oCell c k)) (oCell c k) :=
  sep_elim_right.trans (bigSep_elim (Φ := fun p : Dev nD × OS => cellInv ER (rd A B) (κ (oCell p.1 p.2)) (oCell p.1 p.2)) (Finset.mem_univ (c, k)))
theorem Inv_x (c : Dev nD) (k : Hop) (r o : Bool) : Inv A B κ ⊢ cellInv ER (rd A B) (κ (xCell c k r o)) (xCell c k r o) :=
  Inv_own A B κ c (some (k, r, o))

/-- The tokens of a hop's four duties. -/
def toks (c : Dev nD) (k : Hop) : sProp 𝕄 :=
  iprop(dutyTok ER (xCell c k false false) 0 false ∗ dutyTok ER (xCell c k false true) 0 false
    ∗ dutyTok ER (xCell (tgt c k) k true false) 0 false ∗ dutyTok ER (xCell (tgt c k) k true true) 0 false)
/-- A hop's two source cells are open. -/
def rch (c : Dev nD) (k : Hop) : sProp 𝕄 := iprop(reached ER (xCell c k false false) 0 ∗ reached ER (xCell c k false true) 0)
/-- Where the waiter is on a hop's two cells. -/
def pos (c : Dev nD) (k : Hop) (r : Bool) (n : ℕ) : sProp 𝕄 :=
  iprop(atPos ER (xCell c k r false) n ∅ 0 ∗ atPos ER (xCell c k r true) n ∅ 0)
/-- The credit of a hop's two waits. -/
def crd (c : Dev nD) (k : Hop) (r : Bool) : sProp 𝕄 :=
  iprop(cred (tallyAt (xCell c k r false) () (NN false)) ∗ cred (tallyAt (xCell c k r true) () (NN true)))

theorem pay_q (c : Dev nD) (k : Hop) (fd : (sQ (hdst k)).view.ty.Contents (Elt F)) :
    ((sQ (hdst k)).view.loc (tgt c k : Thread nD τ) ↦[(sQ (hdst k)).view.set]{fullShare}
        ((sQ (hdst k)).view.write (Elt F) fd ((sQ (hsrc k)).view.read (Elt F) (qbuf A c)) Finset.univ) : sProp 𝕄)
      ⊢ (rd (F := F) A B).payload (xCell (tgt c k) k true false) 0 false := by
  rw [payload_x]
  exact Entails.of_eq (pointsTo_congr (landed_q A c (tgt c k) (hsrc k) (hdst k) (own_hop c k) fd))
theorem pay_o (c : Dev nD) (k : Hop) (fd : (sO (hdst k)).view.ty.Contents (Elt F)) :
    ((sO (hdst k)).view.loc (tgt c k : Thread nD τ) ↦[(sO (hdst k)).view.set]{fullShare}
        ((sO (hdst k)).view.write (Elt F) fd ((sO (hsrc k)).view.read (Elt F) (obuf B c)) Finset.univ) : sProp 𝕄)
      ⊢ (rd (F := F) A B).payload (xCell (tgt c k) k true true) 0 false := by
  rw [payload_x]
  exact Entails.of_eq (pointsTo_congr (landed_o B c (tgt c k) (hsrc k) (hdst k) (own_hop c k) fd))

/-- One of a hop's two sends, the query weights' slot. -/
theorem sendQ_step (c : Dev nD) (k : Hop) (O : CellTallies nD τ sig Unit) (W : Waits sig Unit) (Q : PUnit → sProp 𝕄)
    (fd : Buf (Elt F) ((sQ (hdst k)).view.loc (tgt c k : Thread nD τ))) :
    iprop(cellInv ER (rd A B) (κ (xCell c k false false)) (xCell c k false false) ∗ cellInv ER (rd A B) (κ (xCell (tgt c k) k true false)) (xCell (tgt c k) k true false)
        ∗ qPt c (hsrc k) (hsh k) (qbuf A c) ∗ qPt (tgt c k) (hdst k) fullShare fd
        ∗ owes (c : Thread nD τ) (O + tallyAt (xCell (tgt c k) k true false) () (NN false)) W
        ∗ dutyTok ER (xCell c k false false) 0 false ∗ reached ER (xCell c k false false) 0
        ∗ dutyTok ER (xCell (tgt c k) k true false) 0 false ∗ reached ER (xCell (tgt c k) k true false) 0)
      ⊢ iprop(((cred (tallyAt (xCell c k false false) () (NN false)) ∗ owes (c : Thread nD τ) O W) -∗ wp frame (wpE (defs₀ (F := F)) 𝒱₀ (c : Thread nD τ) none) Set.univ (.ret ⟨⟩) Q)
          -∗ wp frame (wpE (defs₀ (F := F)) 𝒱₀ (c : Thread nD τ) none) Set.univ
            (sendQ QM (Memref.isWhole_whole _) (tgt c k) (hsrc k) (hdst k) (hsem k false false) (hsem k true false)) Q) := by
  unfold sendQ qPt Prog.lift
  exact (Rounds.wp_send_pointsTo 𝒱₀ ER (rd A B) (c : Thread nD τ) none (κ₁ := κ (xCell c k false false)) (κ₂ := κ (xCell (tgt c k) k true false))
      (r₁ := 0) (r₂ := 0) (d₁ := false) (d₂ := false) (fd := fd)
      (by rw [duties_x]; exact Finset.mem_singleton_self _) (by rw [duties_x]; exact Finset.mem_singleton_self _)
      () () (NN false) (by exact sQ_credit _) (amount_x A B c k false false false) (amount_x A B (tgt c k) k true false false) O rfl (W := W)
      (by rw [payload_x]; exact BI.Entails.refl _) (pay_q A B c k fd))

/-- One of a hop's two sends, the output weights' slot. -/
theorem sendO_step (c : Dev nD) (k : Hop) (O : CellTallies nD τ sig Unit) (W : Waits sig Unit) (Q : PUnit → sProp 𝕄)
    (fd : Buf (Elt F) ((sO (hdst k)).view.loc (tgt c k : Thread nD τ))) :
    iprop(cellInv ER (rd A B) (κ (xCell c k false true)) (xCell c k false true) ∗ cellInv ER (rd A B) (κ (xCell (tgt c k) k true true)) (xCell (tgt c k) k true true)
        ∗ oPt c (hsrc k) (hsh k) (obuf B c) ∗ oPt (tgt c k) (hdst k) fullShare fd
        ∗ owes (c : Thread nD τ) (O + tallyAt (xCell (tgt c k) k true true) () (NN true)) W
        ∗ dutyTok ER (xCell c k false true) 0 false ∗ reached ER (xCell c k false true) 0
        ∗ dutyTok ER (xCell (tgt c k) k true true) 0 false ∗ reached ER (xCell (tgt c k) k true true) 0)
      ⊢ iprop(((cred (tallyAt (xCell c k false true) () (NN true)) ∗ owes (c : Thread nD τ) O W) -∗ wp frame (wpE (defs₀ (F := F)) 𝒱₀ (c : Thread nD τ) none) Set.univ (.ret ⟨⟩) Q)
          -∗ wp frame (wpE (defs₀ (F := F)) 𝒱₀ (c : Thread nD τ) none) Set.univ
            (sendO OM (Memref.isWhole_whole _) (tgt c k) (hsrc k) (hdst k) (hsem k false true) (hsem k true true)) Q) := by
  unfold sendO oPt Prog.lift
  exact (Rounds.wp_send_pointsTo 𝒱₀ ER (rd A B) (c : Thread nD τ) none (κ₁ := κ (xCell c k false true)) (κ₂ := κ (xCell (tgt c k) k true true))
      (r₁ := 0) (r₂ := 0) (d₁ := false) (d₂ := false) (fd := fd)
      (by rw [duties_x]; exact Finset.mem_singleton_self _) (by rw [duties_x]; exact Finset.mem_singleton_self _)
      () () (NN true) (by exact sO_credit _) (amount_x A B c k false true false) (amount_x A B (tgt c k) k true true false) O rfl (W := W)
      (by rw [payload_x]; exact BI.Entails.refl _) (pay_o A B c k fd))

/-- A hop starts: the lent shares go out, and the neighbour's free slot with them. -/
theorem start_step (c : Dev nD) (k : Hop) (O : CellTallies nD τ sig Unit) (W : Waits sig Unit) (Q : PUnit → sProp 𝕄) :
    iprop(Inv A B κ ∗ slot A B c (hsrc k) (hsh k) ∗ toks c k ∗ rch c k ∗ give (tgt c k) k ∗ owes (c : Thread nD τ) (hopO c k O) W
        ∗ ((crd c k false ∗ owes (c : Thread nD τ) O W) -∗ Q ⟨⟩))
      ⊢ wp frame (wpE (defs₀ (F := F)) 𝒱₀ (c : Thread nD τ) none) Set.univ (startH (tgt c k) k) Q := by
  unfold startH slot toks rch give free crd hopO
  rw [wp_bind]
  iintro ⟨#HI, ⟨Hq, Ho⟩, ⟨Ht1, Ht2, Ht3, Ht4⟩, ⟨#Hr1, #Hr2⟩, ⟨⟨⟨%fq, Hfq⟩, ⟨%fo, Hfo⟩⟩, #Hr3, #Hr4⟩, HO, HK⟩
  iapply (sendQ_step A B κ c k (O + tallyAt (xCell (tgt c k) k true true) () (NN true)) W _ fq) $$ [Hq Hfq HO Ht1 Ht3]
  · isplitr; · iapply (Inv_x A B κ c k false false); iexact HI
    isplitr; · iapply (Inv_x A B κ (tgt c k) k true false); iexact HI
    isplitl [Hq]; · iexact Hq
    isplitl [Hfq]; · iexact Hfq
    isplitl [HO]; · iexact HO
    isplitl [Ht1]; · iexact Ht1
    isplitr; · iexact Hr1
    isplitl [Ht3]; · iexact Ht3
    iexact Hr3
  iintro ⟨Hc1, HO⟩
  rw [wp_ret]; imodintro
  iapply (sendO_step A B κ c k O W _ fo) $$ [Ho Hfo HO Ht2 Ht4]
  · isplitr; · iapply (Inv_x A B κ c k false true); iexact HI
    isplitr; · iapply (Inv_x A B κ (tgt c k) k true true); iexact HI
    isplitl [Ho]; · iexact Ho
    isplitl [Hfo]; · iexact Hfo
    isplitl [HO]; · iexact HO
    isplitl [Ht2]; · iexact Ht2
    isplitr; · iexact Hr2
    isplitl [Ht4]; · iexact Ht4
    iexact Hr4
  iintro ⟨Hc2, HO⟩
  rw [wp_ret]; imodintro
  iapply HK
  isplitl [Hc1 Hc2]
  · isplitl [Hc1]; · iexact Hc1
    iexact Hc2
  iexact HO

/-- Two waits on a hop's cells of one side. -/
theorem recv_step (c : Dev nD) (k : Hop) (O : CellTallies nD τ sig Unit) (hO : Above (2 + hno k) O) (W : Waits sig Unit) (Q : PUnit → sProp 𝕄) :
    iprop(Inv A B κ ∗ levAts L lv ∗ crd c k true ∗ pos c k true 0 ∗ owes (c : Thread nD τ) O W
        ∗ ((∃ W', pos c k true 1 ∗ slot A B c (hdst k) fullShare ∗ owes (c : Thread nD τ) O W') -∗ Q ⟨⟩))
      ⊢ wp frame (wpE (defs₀ (F := F)) 𝒱₀ (c : Thread nD τ) none) Set.univ (recvH k) Q := by
  unfold recvH waitQ waitO pos crd slot
  simp only [Prog.lift, Prog.bind_op, Prog.bind_ret, Prog.pure_eq_ret]
  iintro ⟨#HI, #Hlev, ⟨Hc1, Hc2⟩, ⟨Hp1, Hp2⟩, HO, HK⟩
  iapply (Rounds.wp_wait_rest_token 𝒱₀ ER (rd A B) (c : Thread nD τ) none (κ := κ (xCell c k true false))
      (wpE_waitDma2_eq 𝒱₀ (c : Thread nD τ) none Set.univ) (Set.mem_univ _) () (O := O) (W := W) (R := 0) (m := 0) (T := ∅)
      (by rw [Nat.zero_add, expect_x]; exact sQ_credit _)) $$ [Hc1 HO Hp1]
  · isplitr; · iapply (Inv_x A B κ c k true false); iexact HI
    isplitl [Hc1]; · iexact Hc1
    isplitl [HO]; · iexact HO
    isplitr; · iapply (mayWait_of c _ _ (le_of_eq (lv_recv c k false ())) hO); iexact Hlev
    iexact Hp1
  iintro ⟨HO, Hp1, -, Hpay⟩
  ihave Hq := (Entails.of_eq ((rest_x A B c k true false).trans (show hopPay A B c k true false = qPt c (hdst k) fullShare (qbuf A c) from rfl))) $$ Hpay
  iapply (Rounds.wp_wait_rest_token 𝒱₀ ER (rd A B) (c : Thread nD τ) none (κ := κ (xCell c k true true))
      (wpE_waitDma2_eq 𝒱₀ (c : Thread nD τ) none Set.univ) (Set.mem_univ _) () (O := O) (W := _) (R := 0) (m := 0) (T := ∅)
      (by rw [Nat.zero_add, expect_x]; exact sO_credit _)) $$ [Hc2 HO Hp2]
  · isplitr; · iapply (Inv_x A B κ c k true true); iexact HI
    isplitl [Hc2]; · iexact Hc2
    isplitl [HO]; · iexact HO
    isplitr; · iapply (mayWait_of c _ _ (le_of_eq (lv_recv c k true ())) hO); iexact Hlev
    iexact Hp2
  iintro ⟨HO, Hp2, -, Hpay⟩
  ihave Ho := (Entails.of_eq ((rest_x A B c k true true).trans (show hopPay A B c k true true = oPt c (hdst k) fullShare (obuf B c) from rfl))) $$ Hpay
  rw [wp_ret]; imodintro
  iapply HK
  iexists _
  isplitl [Hp1 Hp2]
  · isplitl [Hp1]; · iexact Hp1
    iexact Hp2
  isplitl [Hq Ho]
  · isplitl [Hq]; · iexact Hq
    iexact Ho
  iexact HO

theorem sent_step (c : Dev nD) (k : Hop) (O : CellTallies nD τ sig Unit) (hO : Above 0 O) (W : Waits sig Unit) (Q : PUnit → sProp 𝕄) :
    iprop(Inv A B κ ∗ levAts L lv ∗ crd c k false ∗ pos c k false 0 ∗ owes (c : Thread nD τ) O W
        ∗ ((∃ W', pos c k false 1 ∗ slot A B c (hsrc k) (hsh k) ∗ owes (c : Thread nD τ) O W') -∗ Q ⟨⟩))
      ⊢ wp frame (wpE (defs₀ (F := F)) 𝒱₀ (c : Thread nD τ) none) Set.univ (sentH k) Q := by
  unfold sentH waitQ waitO pos crd slot
  simp only [Prog.lift, Prog.bind_op, Prog.bind_ret, Prog.pure_eq_ret]
  iintro ⟨#HI, #Hlev, ⟨Hc1, Hc2⟩, ⟨Hp1, Hp2⟩, HO, HK⟩
  iapply (Rounds.wp_wait_rest_token 𝒱₀ ER (rd A B) (c : Thread nD τ) none (κ := κ (xCell c k false false))
      (wpE_waitDma2_eq 𝒱₀ (c : Thread nD τ) none Set.univ) (Set.mem_univ _) () (O := O) (W := W) (R := 0) (m := 0) (T := ∅)
      (by rw [Nat.zero_add, expect_x]; exact sQ_credit _)) $$ [Hc1 HO Hp1]
  · isplitr; · iapply (Inv_x A B κ c k false false); iexact HI
    isplitl [Hc1]; · iexact Hc1
    isplitl [HO]; · iexact HO
    isplitr; · iapply (mayWait_of c _ _ (le_of_eq (lv_send c k false ())) hO); iexact Hlev
    iexact Hp1
  iintro ⟨HO, Hp1, -, Hpay⟩
  ihave Hq := (Entails.of_eq ((rest_x A B c k false false).trans (show hopPay A B c k false false = qPt c (hsrc k) (hsh k) (qbuf A c) from rfl))) $$ Hpay
  iapply (Rounds.wp_wait_rest_token 𝒱₀ ER (rd A B) (c : Thread nD τ) none (κ := κ (xCell c k false true))
      (wpE_waitDma2_eq 𝒱₀ (c : Thread nD τ) none Set.univ) (Set.mem_univ _) () (O := O) (W := _) (R := 0) (m := 0) (T := ∅)
      (by rw [Nat.zero_add, expect_x]; exact sO_credit _)) $$ [Hc2 HO Hp2]
  · isplitr; · iapply (Inv_x A B κ c k false true); iexact HI
    isplitl [Hc2]; · iexact Hc2
    isplitl [HO]; · iexact HO
    isplitr; · iapply (mayWait_of c _ _ (le_of_eq (lv_send c k true ())) hO); iexact Hlev
    iexact Hp2
  iintro ⟨HO, Hp2, -, Hpay⟩
  ihave Ho := (Entails.of_eq ((rest_x A B c k false true).trans (show hopPay A B c k false true = oPt c (hsrc k) (hsh k) (obuf B c) from rfl))) $$ Hpay
  rw [wp_ret]; imodintro
  iapply HK
  iexists _
  isplitl [Hp1 Hp2]
  · isplitl [Hp1]; · iexact Hp1
    iexact Hp2
  isplitl [Hq Ho]
  · isplitl [Hq]; · iexact Hq
    iexact Ho
  iexact HO

/-! ## A block's contribution -/

abbrev KM : Memref sig .tc .vmem S64x2x256x64 .bf16 := Memref.whole cc0_stg3_0
abbrev VM : Memref sig .tc .vmem S64x2x256x64 .bf16 := Memref.whole cc0_stg4_0

def kvPt (c : Dev nD) (g3 : Vec F S64x2x256x64 .bf16) (g4 : Vec F S64x2x256x64 .bf16) : sProp 𝕄 :=
  iprop((KM.view.loc (c : Thread nD τ) ↦[Finset.univ]{fullShare} g3) ∗ (VM.view.loc (c : Thread nD τ) ↦[Finset.univ]{fullShare} g4))

def rd0 (g : Vec F S64x2x256x64 .bf16) (c : Dev nD) (s : Fin 16) (j : Fin 4) : Vec F S1x1x256x64 .bf16 := fun i =>
  g ((Rect.unit (s := S64x2x256x64) (k0_off1 c (BitVec.ofNat 32 s.val) (BitVec.ofNat 32 j.val)) S1x1x256x64.size (k0_off1_inb c s j)).emb i)
def rd1 (g : Vec F S64x2x256x64 .bf16) (c : Dev nD) (s : Fin 16) (j : Fin 4) : Vec F S1x1x256x64 .bf16 := fun i =>
  g ((Rect.unit (s := S64x2x256x64) (k0_off2 c (BitVec.ofNat 32 s.val) (BitVec.ofNat 32 j.val)) S1x1x256x64.size (k0_off2_inb c s j)).emb i)

theorem read_k0 (g : Vec F S64x2x256x64 .bf16) (c : Dev nD) (s : Fin 16) (j : Fin 4) :
    KM.view.readAt (Elt F) (Rect.unit (s := S64x2x256x64) (k0_off1 c (BitVec.ofNat 32 s.val) (BitVec.ofNat 32 j.val)) S1x1x256x64.size (k0_off1_inb c s j)).toLoadRect g = rd0 g c s j := rfl
theorem read_k1 (g : Vec F S64x2x256x64 .bf16) (c : Dev nD) (s : Fin 16) (j : Fin 4) :
    KM.view.readAt (Elt F) (Rect.unit (s := S64x2x256x64) (k0_off2 c (BitVec.ofNat 32 s.val) (BitVec.ofNat 32 j.val)) S1x1x256x64.size (k0_off2_inb c s j)).toLoadRect g = rd1 g c s j := rfl
theorem read_v0 (g : Vec F S64x2x256x64 .bf16) (c : Dev nD) (s : Fin 16) (j : Fin 4) :
    VM.view.readAt (Elt F) (Rect.unit (s := S64x2x256x64) (k0_off1 c (BitVec.ofNat 32 s.val) (BitVec.ofNat 32 j.val)) S1x1x256x64.size (k0_off1_inb c s j)).toLoadRect g = rd0 g c s j := rfl
theorem read_v1 (g : Vec F S64x2x256x64 .bf16) (c : Dev nD) (s : Fin 16) (j : Fin 4) :
    VM.view.readAt (Elt F) (Rect.unit (s := S64x2x256x64) (k0_off2 c (BitVec.ofNat 32 s.val) (BitVec.ofNat 32 j.val)) S1x1x256x64.size (k0_off2_inb c s j)).toLoadRect g = rd1 g c s j := rfl

/-- The accumulator after the block in slot `s` of device `c`. -/
def accV (c : Dev nD) (x : FVec F S512x512 .bf16) (g3 g4 : Vec F S64x2x256x64 .bf16) (s : Fin 16) (acc : FVec F S512x512 .f32) : FVec F S512x512 .f32 :=
  stepV maskV x acc (blkQ A (own c s)) (blkO B (own c s))
    (rd0 g3 c s 0) (rd0 g4 c s 0) (rd0 g3 c s 1) (rd0 g4 c s 1) (rd0 g3 c s 2) (rd0 g4 c s 2) (rd0 g3 c s 3) (rd0 g4 c s 3)
    (rd1 g3 c s 0) (rd1 g4 c s 0) (rd1 g3 c s 1) (rd1 g4 c s 1) (rd1 g3 c s 2) (rd1 g4 c s 2) (rd1 g3 c s 3) (rd1 g4 c s 3)

theorem sQ_set (s : Fin 16) : (sQ s).view.set = (rectQ s).set := (View.set_reshape _ _).trans (View.set_slice_whole _ _)
theorem sO_set (s : Fin 16) : (sO s).view.set = (rectO s).set := (View.set_reshape _ _).trans (View.set_slice_whole _ _)
theorem setOn_q (s : Fin 16) : QM.view.setOn (rectQ s).toLoadRect.set ⊆ (sQ s).view.set := by
  rw [sQ_set]; intro i hi; obtain ⟨y, hy, rfl⟩ := Finset.mem_map.mp hi; exact hy
theorem setOn_o (s : Fin 16) : OM.view.setOn (rectO s).toLoadRect.set ⊆ (sO s).view.set := by
  rw [sO_set]; intro i hi; obtain ⟨y, hy, rfl⟩ := Finset.mem_map.mp hi; exact hy
theorem storeOn_q (s : Fin 16) : (QM.access (rectQ s)).setOn Finset.univ ⊆ (sQ s).view.set :=
  Finset.Subset.trans (View.setOn_subset_set _ _) (by rw [sQ_set]; exact Finset.subset_of_eq (View.set_slice_whole _ _))
theorem storeOn_o (s : Fin 16) : (OM.access (rectO s)).setOn Finset.univ ⊆ (sO s).view.set :=
  Finset.Subset.trans (View.setOn_subset_set _ _) (by rw [sO_set]; exact Finset.subset_of_eq (View.set_slice_whole _ _))

set_option maxHeartbeats 1600000 in
theorem contrib_step (c : Dev nD) (x : FVec F S512x512 .bf16) (g3 g4 : Vec F S64x2x256x64 .bf16) (s : Fin 16) (acc : FVec F S512x512 .f32)
    (q : PosShare TreeShare) (Q : FVec F S512x512 .f32 → sProp 𝕄) :
    iprop(slot A B c s q ∗ kvPt c g3 g4 ∗ ((slot A B c s q ∗ kvPt c g3 g4) -∗ Q (accV A B c x g3 g4 s acc)))
      ⊢ wp frame (wpE (defs₀ (F := F)) 𝒱₀ (c : Thread nD τ) none) Set.univ (contrib KM VM QM OM c maskV x s acc) Q := by
  unfold contrib slot qPt oPt kvPt
  simp only [Prog.lift, Prog.bind_op, Prog.bind_ret, Prog.pure_eq_ret]
  iintro ⟨⟨Hq, Ho⟩, ⟨Hk, Hv⟩, HK⟩
  iapply (wp_load 𝒱₀ (c : Thread nD τ) none Set.univ (m := QM) (setOn_q s)) $$ Hq; iintro Hq
  iapply (wp_load 𝒱₀ (c : Thread nD τ) none Set.univ (m := OM) (setOn_o s)) $$ Ho; iintro Ho
  rw [load_q, load_o]
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  iapply (wp_load 𝒱₀ (c : Thread nD τ) none Set.univ (m := KM) (Finset.subset_univ _)) $$ Hk; iintro Hk
  iapply (wp_load 𝒱₀ (c : Thread nD τ) none Set.univ (m := VM) (Finset.subset_univ _)) $$ Hv; iintro Hv
  rw [wp_ret]; imodintro
  conv => rhs; change Q (accV A B c x g3 g4 s acc)
  iapply HK
  isplitl [Hq Ho]
  · isplitl [Hq]; · iexact Hq
    iexact Ho
  isplitl [Hk]; · iexact Hk
  iexact Hv

end WithContents

end Cert.KernelIdeal.K
end
end
-- ==== Proof.KI.Body.lean ====
module

public import proofs.«01_k».proof.Proof.KI.Steps

/-! The body at a symbolic device, from its resources at entry to its resources at exit. -/

@[expose] public section

set_option synthInstance.maxSize 4096

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Loads and stores as whole programs -/

theorem ld_step (c : Dev nD) {cs : CoreSpace} {s : Shape} {e : EltTy} (m : Memref sig .tc cs s e) (r : LoadRect s) (hl : m.view.LoadsAt r)
    {S : Finset (Idx (m.view.loc (c : Thread nD τ)))} (q : PosShare TreeShare) (f : Buf (Elt F) (m.view.loc (c : Thread nD τ)))
    (hS : m.view.setOn r.set ⊆ S) (v : r.shape.Idx → Elt F e) (hv : m.view.readAt (Elt F) r f = v) (K : (r.shape.Idx → Elt F e) → sProp 𝕄) :
    iprop((m.view.loc (c : Thread nD τ) ↦[S]{q} f) ∗ ((m.view.loc (c : Thread nD τ) ↦[S]{q} f) -∗ K v))
      ⊢ wp frame (wpE (defs₀ (F := F)) 𝒱₀ (c : Thread nD τ) none) Set.univ (Prog.lift (.load m r hl)) K := by
  subst hv
  unfold Prog.lift
  iintro ⟨H, HK⟩
  iapply (wp_load 𝒱₀ (c : Thread nD τ) none Set.univ (m := m) hS) $$ H
  iintro H
  rw [wp_ret]; imodintro
  iapply HK; iexact H

theorem st_step (c : Dev nD) {cs : CoreSpace} {s : Shape} {e : EltTy} (m : Memref sig .tc cs s e) (r : Rect s) (w : r.shape.Idx → Elt F e)
    (hx : (m.access r).Stores Finset.univ) (hm : (Finset.univ : Finset r.shape.Idx) = Finset.univ ∨ ∀ a, r.stride a = 1)
    {S : Finset (Idx ((m.access r).loc (c : Thread nD τ)))} (f f' : Buf (Elt F) ((m.access r).loc (c : Thread nD τ)))
    (hS : (m.access r).setOn Finset.univ ⊆ S) (hv : ∀ i ∈ S, (m.access r).write (Elt F) f w Finset.univ i = f' i) (K : PUnit → sProp 𝕄) :
    iprop(((m.access r).loc (c : Thread nD τ) ↦[S]{fullShare} f) ∗ (((m.access r).loc (c : Thread nD τ) ↦[S]{fullShare} f') -∗ K ⟨⟩))
      ⊢ wp frame (wpE (defs₀ (F := F)) 𝒱₀ (c : Thread nD τ) none) Set.univ (Prog.lift (.store m r w Finset.univ hx hm)) K := by
  unfold Prog.lift
  rw [← pointsTo_congr hv]
  iintro ⟨H, HK⟩
  iapply (wp_store 𝒱₀ (c : Thread nD τ) none Set.univ (m := m) (r := r) (Mk := Finset.univ) hS) $$ H
  iintro H
  rw [wp_ret]; imodintro
  iapply HK; iexact H

section WithContents

variable (A : Dev nD → Vec F S512x256 .bf16) (B : Dev nD → Vec F S256x512 .bf16)
variable (κ : GSem nD τ sig → ℕ)

/-! ## Shares of a slot -/

theorem slot_cut (c : Dev nD) (s : Fin 16) : slot A B c s fullShare ⊢ iprop(slot A B c s shA ∗ slot A B c s shB ∗ slot A B c s shC) := by
  unfold slot qPt oPt
  iintro ⟨Hq, Ho⟩
  ihave Hq := (pointsTo_share (PosShare.mem_left_op_right fullShare)).1 $$ Hq
  icases Hq with ⟨Hqa, Hq⟩
  ihave Hq := (pointsTo_share (PosShare.mem_left_op_right fullShare.right)).1 $$ Hq
  icases Hq with ⟨Hqb, Hqc⟩
  ihave Ho := (pointsTo_share (PosShare.mem_left_op_right fullShare)).1 $$ Ho
  icases Ho with ⟨Hoa, Ho⟩
  ihave Ho := (pointsTo_share (PosShare.mem_left_op_right fullShare.right)).1 $$ Ho
  icases Ho with ⟨Hob, Hoc⟩
  isplitl [Hqa Hoa]
  · isplitl [Hqa]; · iexact Hqa
    iexact Hoa
  isplitl [Hqb Hob]
  · isplitl [Hqb]; · iexact Hqb
    iexact Hob
  isplitl [Hqc]; · iexact Hqc
  iexact Hoc

theorem slot_join (c : Dev nD) (s : Fin 16) : iprop(slot A B c s shA ∗ slot A B c s shB ∗ slot A B c s shC) ⊢ slot A B c s fullShare := by
  unfold slot qPt oPt
  iintro ⟨⟨Hqa, Hoa⟩, ⟨Hqb, Hob⟩, Hqc, Hoc⟩
  ihave Hq := (pointsTo_share (PosShare.mem_left_op_right fullShare.right)).2 $$ [Hqb Hqc]
  · isplitl [Hqb]; · iexact Hqb
    iexact Hqc
  ihave Hq := (pointsTo_share (PosShare.mem_left_op_right fullShare)).2 $$ [Hqa Hq]
  · isplitl [Hqa]; · iexact Hqa
    iexact Hq
  ihave Ho := (pointsTo_share (PosShare.mem_left_op_right fullShare.right)).2 $$ [Hob Hoc]
  · isplitl [Hob]; · iexact Hob
    iexact Hoc
  ihave Ho := (pointsTo_share (PosShare.mem_left_op_right fullShare)).2 $$ [Hoa Ho]
  · isplitl [Hoa]; · iexact Hoa
    iexact Ho
  isplitl [Hq]; · iexact Hq
  iexact Ho

/-! ## A hop before, while and after it is under way -/

/-- What a device holds of a hop at entry. -/
def ghost (c : Dev nD) (k : Hop) : sProp 𝕄 := iprop(toks c k ∗ rch c k ∗ pos c k false 0 ∗ crd c k true ∗ pos c k true 0)
/-- What it holds when it may start the hop. -/
def ready (c : Dev nD) (k : Hop) : sProp 𝕄 := iprop(ghost c k ∗ give (F := F) (tgt c k) k)
/-- What it holds while the hop is under way. -/
def live (c : Dev nD) (k : Hop) : sProp 𝕄 := iprop(crd c k false ∗ pos c k false 0 ∗ crd c k true ∗ pos c k true 0)
/-- What it holds once it has waited for all of the hop. -/
def over (c : Dev nD) (k : Hop) : sProp 𝕄 := iprop(pos (F := F) c k false 1 ∗ pos c k true 1)

theorem start_step' (c : Dev nD) (k : Hop) (O : CellTallies nD τ sig Unit) (W : Waits sig Unit) (Q : PUnit → sProp 𝕄) :
    iprop(Inv A B κ ∗ slot A B c (hsrc k) (hsh k) ∗ ready c k ∗ owes (c : Thread nD τ) (hopO c k O) W
        ∗ ((live c k ∗ owes (c : Thread nD τ) O W) -∗ Q ⟨⟩))
      ⊢ wp frame (wpE (defs₀ (F := F)) 𝒱₀ (c : Thread nD τ) none) Set.univ (startH (tgt c k) k) Q := by
  unfold ready ghost live
  iintro ⟨#HI, Hs, ⟨⟨Ht, Hr, Hp1, Hc2, Hp2⟩, Hg⟩, HO, HK⟩
  iapply (start_step A B κ c k O W Q)
  isplitr; · iexact HI
  isplitl [Hs]; · iexact Hs
  isplitl [Ht]; · iexact Ht
  isplitl [Hr]; · iexact Hr
  isplitl [Hg]; · iexact Hg
  isplitl [HO]; · iexact HO
  iintro ⟨Hc1, HO⟩
  iapply HK
  isplitr [HO]
  · isplitl [Hc1]; · iexact Hc1
    isplitl [Hp1]; · iexact Hp1
    isplitl [Hc2]; · iexact Hc2
    iexact Hp2
  iexact HO

/-! ## The hops of a round -/

abbrev hR (h : Fin 7) : Hop := .inl ⟨h.val, by omega⟩
abbrev hL (h : Fin 7) : Hop := .inr h
/-- A round with both directions before and after it, and the round after that. -/
abbrev r0 (h : Fin 6) : Fin 7 := ⟨h.val, by omega⟩
abbrev r1 (h : Fin 6) : Fin 7 := ⟨h.val + 1, by omega⟩

/-! ## What is owed along the way -/

/-- What is owed once both hops numbered `n` have started. -/
def rest (c : Dev nD) (n : ℕ) : CellTallies nD τ sig Unit := hopsO c (order.drop (2 * n + 2)) (finO c)
theorem rest_succ (c : Dev nD) (h : Fin 6) : rest c h.val = hopO c (hR (r1 h)) (hopO c (hL (r1 h)) (rest c (h.val + 1))) := by
  match h with
  | ⟨0, _⟩ => rfl
  | ⟨1, _⟩ => rfl
  | ⟨2, _⟩ => rfl
  | ⟨3, _⟩ => rfl
  | ⟨4, _⟩ => rfl
  | ⟨5, _⟩ => rfl
theorem rest_six (c : Dev nD) : rest c 6 = hopO c (.inl 7) (finO c) := rfl
theorem O₂_eq (c : Dev nD) : O₂ c = hopO c (.inl 0) (hopO c (.inr 0) (rest c 0)) := rfl
theorem order_above : ∀ h : Fin 7, ∀ k ∈ order.drop (2 * h.val + 2), h.val < hno k := by decide
theorem above_rest (c : Dev nD) (h : Fin 7) : Above (2 + h.val) (rest c h.val) :=
  above_hopsO (above_finO (by omega) c) c _ fun k hk => by have := order_above h k hk; omega
theorem above_mono {n n' : ℕ} (hn : n' ≤ n) {O : CellTallies nD τ sig Unit} (h : Above n O) : Above n' O :=
  fun g u hg => ⟨(h g u hg).1, lt_of_le_of_lt hn (h g u hg).2⟩

/-! ## A round with both directions before and after it -/

/-- What round `h` leaves behind. -/
def left (c : Dev nD) (h : Fin 7) : sProp 𝕄 :=
  iprop(over c (hR h) ∗ over c (hL h)
    ∗ slot A B c (hsrc (hR h)) shA ∗ slot A B c (hsrc (hL h)) shB
    ∗ (slot A B c (hdst (hR h)) shB ∗ slot A B c (hdst (hR h)) shC)
    ∗ (slot A B c (hdst (hL h)) shA ∗ slot A B c (hdst (hL h)) shC))

abbrev roundP (c : Dev nD) (m : IVec S256x256 1) (x : FVec F S512x512 .bf16) (h : Fin 6) (acc : FVec F S512x512 .f32) : Prog (TpuEff nD τ sig (Elt F) Λ₀ .tc) (FVec F S512x512 .f32) :=
  fullRound KM VM QM (Memref.isWhole_whole _) OM (Memref.isWhole_whole _) cc0_scratch2 cc0_scratch3 cc0_scratch4 cc0_scratch5 cc0_scratch6 cc0_scratch7 cc0_scratch8 cc0_scratch9 c m x h acc

def roundV (c : Dev nD) (x : FVec F S512x512 .bf16) (g3 g4 : Vec F S64x2x256x64 .bf16) (h : Fin 6) (acc : FVec F S512x512 .f32) : FVec F S512x512 .f32 :=
  accV A B c x g3 g4 (hdst (hL (r0 h))) (accV A B c x g3 g4 (hdst (hR (r0 h))) acc)

theorem rsrc_succ (h : Fin 6) : hsrc (hR (r1 h)) = hdst (hR (r0 h)) := by revert h; decide
theorem lsrc_succ (h : Fin 6) : hsrc (hL (r1 h)) = hdst (hL (r0 h)) := by revert h; decide
theorem round_hi (h : Fin 6) (p : 15 - h.val < 16) : (⟨15 - h.val, p⟩ : Fin 16) = hdst (hR (r0 h)) := rfl
theorem round_lo (h : Fin 6) (p : h.val + 1 < 16) : (⟨h.val + 1, p⟩ : Fin 16) = hdst (hL (r0 h)) := rfl

set_option maxHeartbeats 1600000 in
theorem round_step (c : Dev nD) (x : FVec F S512x512 .bf16) (g3 g4 : Vec F S64x2x256x64 .bf16) (h : Fin 6) (acc : FVec F S512x512 .f32)
    (W : Waits sig Unit) (Q : FVec F S512x512 .f32 → sProp 𝕄) :
    iprop(Inv A B κ ∗ levAts L lv ∗ live c (hR (r0 h)) ∗ live c (hL (r0 h))
        ∗ ready c (hR (r1 h)) ∗ ready c (hL (r1 h))
        ∗ kvPt c g3 g4 ∗ owes (c : Thread nD τ) (rest c h.val) W
        ∗ ((∃ W', left A B c (r0 h) ∗ live c (hR (r1 h)) ∗ live c (hL (r1 h))
            ∗ kvPt c g3 g4 ∗ owes (c : Thread nD τ) (rest c (h.val + 1)) W') -∗ Q (roundV A B c x g3 g4 h acc)))
      ⊢ wp frame (wpE (defs₀ (F := F)) 𝒱₀ (c : Thread nD τ) none) Set.univ (roundP c maskV x h acc) Q := by
  unfold roundP fullRound
  simp only [recvR_eq, recvL_eq, startR_eq, startL_eq, sentR_eq, sentL_eq, round_hi, round_lo, wp_bind]
  unfold live
  iintro ⟨#HI, #Hlev, ⟨HcR, HpR, HdR, HqR⟩, ⟨HcL, HpL, HdL, HqL⟩, HrR, HrL, Hkv, HO, HK⟩
  -- both arrivals
  iapply (recv_step A B κ c (hR (r0 h)) (rest c h.val) (above_rest c (r0 h)) W _)
  isplitr; · iexact HI
  isplitr; · iexact Hlev
  isplitl [HdR]; · iexact HdR
  isplitl [HqR]; · iexact HqR
  isplitl [HO]; · iexact HO
  iintro ⟨%W1, HqR, HsR, HO⟩
  iapply (recv_step A B κ c (hL (r0 h)) (rest c h.val) (above_rest c (r0 h)) W1 _)
  isplitr; · iexact HI
  isplitr; · iexact Hlev
  isplitl [HdL]; · iexact HdL
  isplitl [HqL]; · iexact HqL
  isplitl [HO]; · iexact HO
  iintro ⟨%W2, HqL, HsL, HO⟩
  ihave HsR := (slot_cut A B c (hdst (hR (r0 h)))) $$ HsR
  icases HsR with ⟨HsRa, HsRb, HsRc⟩
  ihave HsL := (slot_cut A B c (hdst (hL (r0 h)))) $$ HsL
  icases HsL with ⟨HsLa, HsLb, HsLc⟩
  -- the next hops
  rw [rest_succ c h]
  iapply (start_step' A B κ c (hR (r1 h)) _ W2 _)
  rw [rsrc_succ h]
  isplitr; · iexact HI
  isplitl [HsRa]; · iexact HsRa
  isplitl [HrR]; · iexact HrR
  isplitl [HO]; · iexact HO
  iintro ⟨HlR, HO⟩
  iapply (start_step' A B κ c (hL (r1 h)) _ W2 _)
  rw [lsrc_succ h]
  isplitr; · iexact HI
  isplitl [HsLb]; · iexact HsLb
  isplitl [HrL]; · iexact HrL
  isplitl [HO]; · iexact HO
  iintro ⟨HlL, HO⟩
  -- both sources read
  iapply (sent_step A B κ c (hR (r0 h)) (rest c (h.val + 1)) (above_mono (Nat.zero_le _) (above_rest c (r1 h))) W2 _)
  isplitr; · iexact HI
  isplitr; · iexact Hlev
  isplitl [HcR]; · iexact HcR
  isplitl [HpR]; · iexact HpR
  isplitl [HO]; · iexact HO
  iintro ⟨%W3, HpR, HbR, HO⟩
  iapply (sent_step A B κ c (hL (r0 h)) (rest c (h.val + 1)) (above_mono (Nat.zero_le _) (above_rest c (r1 h))) W3 _)
  isplitr; · iexact HI
  isplitr; · iexact Hlev
  isplitl [HcL]; · iexact HcL
  isplitl [HpL]; · iexact HpL
  isplitl [HO]; · iexact HO
  iintro ⟨%W4, HpL, HbL, HO⟩
  -- the two blocks
  iapply (contrib_step A B c x g3 g4 (hdst (hR (r0 h))) acc shC _)
  isplitl [HsRc]; · iexact HsRc
  isplitl [Hkv]; · iexact Hkv
  iintro ⟨HsRc, Hkv⟩
  iapply (contrib_step A B c x g3 g4 (hdst (hL (r0 h))) _ shC _)
  isplitl [HsLc]; · iexact HsLc
  isplitl [Hkv]; · iexact Hkv
  iintro ⟨HsLc, Hkv⟩
  unfold roundV
  iapply HK
  iexists W4
  isplitr [HlR HlL Hkv HO]
  · unfold left over
    isplitl [HpR HqR]
    · isplitl [HpR]; · iexact HpR
      iexact HqR
    isplitl [HpL HqL]
    · isplitl [HpL]; · iexact HpL
      iexact HqL
    isplitl [HbR]; · iexact HbR
    isplitl [HbL]; · iexact HbL
    isplitl [HsRb HsRc]
    · isplitl [HsRb]; · iexact HsRb
      iexact HsRc
    isplitl [HsLa]; · iexact HsLa
    iexact HsLc
  unfold live
  isplitl [HlR]; · iexact HlR
  isplitl [HlL]; · iexact HlL
  isplitl [Hkv]; · iexact Hkv
  iexact HO

end WithContents

end Cert.KernelIdeal.K
end
end
-- ==== Proof.KI.CleanEq.lean ====
module

public import proofs.«01_k».proof.Proof.KI.Clean

@[expose] public section

namespace Cert.KernelIdeal.K

open Idealize.ShloMosaic Idealize.SL.Sem
open Cert.KernelIdeal Cert.KernelIdeal.Gen

variable {F : FTy → Type} [FloatOps F]

set_option maxRecDepth 1000000 in
set_option maxHeartbeats 0 in
theorem body_eq_clean : cc0__body (F := F) = clean (F := F) := rfl

end Cert.KernelIdeal.K
end
-- ==== Proof.KI.Whole.lean ====
module

public import proofs.«01_k».proof.Proof.KI.Body
public import proofs.«01_k».proof.Proof.KI.CleanEq

/-! The whole body at a symbolic device. -/

@[expose] public section

set_option synthInstance.maxSize 4096

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev XM : Memref sig .tc .vmem S2x256x512 .bf16 := Memref.whole cc0_stg0_0
abbrev AM : Memref sig .tc .vmem S512x256 .bf16 := Memref.whole cc0_stg1_0
abbrev BM : Memref sig .tc .vmem S256x512 .bf16 := Memref.whole cc0_stg2_0
abbrev YM : Memref sig .tc .vmem S2x256x512 .f32 := Memref.whole cc0_stg5_0

section WithContents

variable (A : Dev nD → Vec F S512x256 .bf16) (B : Dev nD → Vec F S256x512 .bf16)
variable (κ : GSem nD τ sig → ℕ)

/-! ## The result -/

/-- The rows, as the body reshapes them. -/
def rowsV (x : Vec F S2x256x512 .bf16) : FVec F S512x512 .bf16 :=
  shapeCast S512x512 (shapeCast S2x256x512 x shapeCasts_S2x256x512_S2x256x512 : FVec F S2x256x512 .bf16) shapeCasts_S2x256x512_S512x512

/-- The accumulator after every block. -/
def allV (c : Dev nD) (x : FVec F S512x512 .bf16) (g3 g4 : Vec F S64x2x256x64 .bf16) : FVec F S512x512 .f32 :=
  accV A B c x g3 g4 8 (accV A B c x g3 g4 7 (accV A B c x g3 g4 9
    (roundV A B c x g3 g4 5 (roundV A B c x g3 g4 4 (roundV A B c x g3 g4 3 (roundV A B c x g3 g4 2 (roundV A B c x g3 g4 1 (roundV A B c x g3 g4 0
      (accV A B c x g3 g4 0 (broadcast S512x512 (Scalar.ofBits .f32 0x00000000#32)))))))))))

/-- What a device's result holds. -/
def outV (c : Dev nD) (x : Vec F S2x256x512 .bf16) (g3 g4 : Vec F S64x2x256x64 .bf16) : Vec F S2x256x512 .f32 :=
  shapeCast S2x256x512 (allV A B c (rowsV x) g3 g4) shapeCasts_S512x512_S2x256x512

/-! ## The two barriers -/

theorem sig_step (c n : Dev nD) (sm : Sem sig) (d : Bool) (hd : d ∈ (rd (F := F) A B).duties ((n : Thread nD τ), .reg sm) 0)
    (hk : (rd (F := F) A B).amount ((n : Thread nD τ), .reg sm) 0 d = 1) (O : CellTallies nD τ sig Unit) (W : Waits sig Unit) (Q : PUnit → sProp 𝕄) :
    iprop(cellInv ER (rd A B) (κ ((n : Thread nD τ), .reg sm)) ((n : Thread nD τ), .reg sm) ∗ owes (c : Thread nD τ) (O + tallyAt ((n : Thread nD τ), .reg sm) () 1) W
        ∗ dutyTok ER ((n : Thread nD τ), .reg sm) 0 d ∗ (rd (F := F) A B).payload ((n : Thread nD τ), .reg sm) 0 d ∗ reached ER ((n : Thread nD τ), .reg sm) 0
        ∗ (owes (c : Thread nD τ) O W -∗ Q ⟨⟩))
      ⊢ wp frame (wpE (defs₀ (F := F)) 𝒱₀ (c : Thread nD τ) none) Set.univ (semSignalWord (p := .tc) n sm 1#32) Q := by
  unfold semSignalWord
  iintro ⟨HI, HO, Ht, Hp, Hr, HK⟩
  iapply (Rounds.wp_signal 𝒱₀ ER (rd A B) (c : Thread nD τ) none (dst := (n : Thread nD τ)) (sem := sm) (κ := κ ((n : Thread nD τ), .reg sm)) (d := d) (r := 0)
    hd (k' := 1) hk () O rfl (W := W)) $$ [HI HO Ht Hp Hr]
  · isplitl [HI]; · iexact HI
    isplitl [HO]; · iexact HO
    isplitl [Ht]; · iexact Ht
    isplitl [Hp]; · iexact Hp
    iexact Hr
  iintro HO
  rw [wp_ret]; imodintro
  iapply HK; iexact HO

theorem wait2_step (c : Dev nD) (sm : Sem sig) (n : ℕ) (hl : lv ((c : Thread nD τ), .reg sm) () ≤ n)
    (he : (rd (F := F) A B).expect ((c : Thread nD τ), .reg sm) 0 = 2) (O : CellTallies nD τ sig Unit) (hO : Above n O) (W : Waits sig Unit) (Q : PUnit → sProp 𝕄) :
    iprop(cellInv ER (rd A B) (κ ((c : Thread nD τ), .reg sm)) ((c : Thread nD τ), .reg sm) ∗ levAts L lv ∗ cred (tallyAt ((c : Thread nD τ), .reg sm) () 2) ∗ owes (c : Thread nD τ) O W
        ∗ atPos ER ((c : Thread nD τ), .reg sm) 0 ∅ 0
        ∗ ((∃ W', owes (c : Thread nD τ) O W' ∗ atPos ER ((c : Thread nD τ), .reg sm) 1 ∅ 0
            ∗ bigSep ((rd (F := F) A B).duties ((c : Thread nD τ), .reg sm) 0 \ ∅) (fun d => (rd (F := F) A B).payload ((c : Thread nD τ), .reg sm) 0 d)) -∗ Q ⟨⟩))
      ⊢ wp frame (wpE (defs₀ (F := F)) 𝒱₀ (c : Thread nD τ) none) Set.univ (semWaitWord (p := .tc) sm 2#32) Q := by
  unfold semWaitWord
  iintro ⟨HI, #Hlev, Hc, HO, Hp, HK⟩
  iapply (Rounds.wp_wait_rest_token 𝒱₀ ER (rd A B) (c : Thread nD τ) none (κ := κ ((c : Thread nD τ), .reg sm))
      (wpE_semWait_eq 𝒱₀ (c : Thread nD τ) none Set.univ) (Set.mem_univ _) () (O := O) (W := W) (R := 0) (m := 0) (T := ∅)
      (by rw [he]; decide)) $$ [HI Hc HO Hp]
  · isplitl [HI]; · iexact HI
    isplitl [Hc]; · iexact Hc
    isplitl [HO]; · iexact HO
    isplitr; · iapply (mayWait_of c _ n hl hO); iexact Hlev
    iexact Hp
  iintro ⟨HO, Hp, -, Hpay⟩
  rw [wp_ret]; imodintro
  iapply HK
  iexists _
  isplitl [HO]; · iexact HO
  isplitl [Hp]; · iexact Hp
  iexact Hpay

/-! ## What the body holds at entry and leaves at exit -/

/-- A whole staging buffer. -/
def stgPt (c : Dev nD) (b : Ref sig .tc) (f : Buf (Elt F) ((c : Thread nD τ).loc b)) : sProp 𝕄 := ((c : Thread nD τ).loc b) ↦{fullShare} f

/-- The device's part of the two barriers at entry. -/
def bars (c : Dev nD) : sProp 𝕄 :=
  iprop(dutyTok ER (barCell (prv c)) 0 true ∗ reached ER (barCell (prv c)) 0 ∗ dutyTok ER (barCell (nxt c)) 0 false ∗ reached ER (barCell (nxt c)) 0
    ∗ cred (tallyAt (barCell c) () 2) ∗ atPos ER (barCell c) 0 ∅ 0)
def fins (c : Dev nD) : sProp 𝕄 :=
  iprop(dutyTok ER (finCell (prv c)) 0 true ∗ dutyTok ER (finCell (nxt c)) 0 false ∗ reached ER (finCell c) 0
    ∗ cred (tallyAt (finCell c) () 2) ∗ atPos ER (finCell c) 0 ∅ 0)
/-- The slots, and that their receive cells are open. -/
def slots (c : Dev nD) : sProp 𝕄 :=
  iprop(free (F := F) c 0 ∗ (bigSep Finset.univ fun h : Fin 8 => give (F := F) c (.inl h)) ∗ (bigSep Finset.univ fun h : Fin 7 => give (F := F) c (.inr h)))
def ghosts (c : Dev nD) : sProp 𝕄 :=
  iprop((bigSep Finset.univ fun h : Fin 8 => ghost (F := F) c (.inl h)) ∗ (bigSep Finset.univ fun h : Fin 7 => ghost (F := F) c (.inr h)))

/-- All slots landed and every hop waited for. -/
def ended (c : Dev nD) : sProp 𝕄 :=
  iprop((bigSep Finset.univ fun s : Fin 16 => slot A B c s fullShare)
    ∗ (bigSep Finset.univ fun h : Fin 8 => over (F := F) c (.inl h)) ∗ (bigSep Finset.univ fun h : Fin 7 => over (F := F) c (.inr h)))

theorem seps8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem seps7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem seps16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem sep_in {I : Type} [Fintype I] (Φ Ψ : I → sProp 𝕄) :
    iprop(bigSep Finset.univ Φ ∗ bigSep Finset.univ Ψ) ⊢ bigSep Finset.univ (fun i => iprop(Φ i ∗ Ψ i)) := Entails.of_eq (bigSep_sep _ _ _).symm
theorem sep_out {I : Type} [Fintype I] (Φ Ψ : I → sProp 𝕄) :
    bigSep Finset.univ (fun i => iprop(Φ i ∗ Ψ i)) ⊢ iprop(bigSep Finset.univ Φ ∗ bigSep Finset.univ Ψ) := Entails.of_eq (bigSep_sep _ _ _)

/-- What the barrier brings makes every hop ready. -/
theorem readies (c : Dev nD) : iprop(ghosts (F := F) c ∗ barPayF c ∗ barPayT c)
    ⊢ iprop((bigSep Finset.univ fun h : Fin 8 => ready (F := F) c (.inl h)) ∗ (bigSep Finset.univ fun h : Fin 7 => ready (F := F) c (.inr h))
        ∗ reached ER (finCell (prv c)) 0 ∗ reached ER (finCell (nxt c)) 0) := by
  unfold ghosts barPayF barPayT ready
  iintro ⟨⟨HgR, HgL⟩, ⟨HL, Hp⟩, HR, Hn⟩
  isplitl [HgR HR]
  · iapply (sep_in (F := F) (fun h : Fin 8 => ghost (F := F) c (.inl h)) fun h => give (F := F) (tgt c (.inl h)) (.inl h))
    isplitl [HgR]; · iexact HgR
    iexact HR
  isplitl [HgL HL]
  · iapply (sep_in (F := F) (fun h : Fin 7 => ghost (F := F) c (.inr h)) fun h => give (F := F) (tgt c (.inr h)) (.inr h))
    isplitl [HgL]; · iexact HgL
    iexact HL
  isplitl [Hp]; · iexact Hp
  iexact Hn

/-- What the last round leaves behind. -/
def last (c : Dev nD) : sProp 𝕄 :=
  iprop(over (F := F) c (.inl 6) ∗ over (F := F) c (.inr 6) ∗ over (F := F) c (.inl 7)
    ∗ slot A B c 10 shA ∗ slot A B c 6 shB ∗ (slot A B c 9 shA ∗ slot A B c 9 shB ∗ slot A B c 9 shC) ∗ slot A B c 7 fullShare ∗ slot A B c 8 fullShare)

theorem ended_of (c : Dev nD) :
    iprop(slot A B c 0 shC ∗ left A B c 0 ∗ left A B c 1 ∗ left A B c 2 ∗ left A B c 3 ∗ left A B c 4 ∗ left A B c 5 ∗ last A B c) ⊢ ended A B c := by
  unfold ended
  rw [seps16, seps8, seps7]
  unfold left last
  iintro ⟨H0c, ⟨R0, L0, H0a, H0b, ⟨H15b, H15c⟩, H1a, H1c⟩, ⟨R1, L1, H15a, H1b, ⟨H14b, H14c⟩, H2a, H2c⟩, ⟨R2, L2, H14a, H2b, ⟨H13b, H13c⟩, H3a, H3c⟩,
    ⟨R3, L3, H13a, H3b, ⟨H12b, H12c⟩, H4a, H4c⟩, ⟨R4, L4, H12a, H4b, ⟨H11b, H11c⟩, H5a, H5c⟩, ⟨R5, L5, H11a, H5b, ⟨H10b, H10c⟩, H6a, H6c⟩,
    R6, L6, R7, H10a, H6b, ⟨H9a, H9b, H9c⟩, H7, H8⟩
  isplitr [R0 R1 R2 R3 R4 R5 R6 R7 L0 L1 L2 L3 L4 L5 L6]
  · isplitl [H0a H0b H0c]
    · iapply (slot_join A B c 0); isplitl [H0a]; · iexact H0a
      isplitl [H0b]; · iexact H0b
      iexact H0c
    isplitl [H1a H1b H1c]
    · iapply (slot_join A B c 1); isplitl [H1a]; · iexact H1a
      isplitl [H1b]; · iexact H1b
      iexact H1c
    isplitl [H2a H2b H2c]
    · iapply (slot_join A B c 2); isplitl [H2a]; · iexact H2a
      isplitl [H2b]; · iexact H2b
      iexact H2c
    isplitl [H3a H3b H3c]
    · iapply (slot_join A B c 3); isplitl [H3a]; · iexact H3a
      isplitl [H3b]; · iexact H3b
      iexact H3c
    isplitl [H4a H4b H4c]
    · iapply (slot_join A B c 4); isplitl [H4a]; · iexact H4a
      isplitl [H4b]; · iexact H4b
      iexact H4c
    isplitl [H5a H5b H5c]
    · iapply (slot_join A B c 5); isplitl [H5a]; · iexact H5a
      isplitl [H5b]; · iexact H5b
      iexact H5c
    isplitl [H6a H6b H6c]
    · iapply (slot_join A B c 6); isplitl [H6a]; · iexact H6a
      isplitl [H6b]; · iexact H6b
      iexact H6c
    isplitl [H7]; · iexact H7
    isplitl [H8]; · iexact H8
    isplitl [H9a H9b H9c]
    · iapply (slot_join A B c 9); isplitl [H9a]; · iexact H9a
      isplitl [H9b]; · iexact H9b
      iexact H9c
    isplitl [H10a H10b H10c]
    · iapply (slot_join A B c 10); isplitl [H10a]; · iexact H10a
      isplitl [H10b]; · iexact H10b
      iexact H10c
    isplitl [H11a H11b H11c]
    · iapply (slot_join A B c 11); isplitl [H11a]; · iexact H11a
      isplitl [H11b]; · iexact H11b
      iexact H11c
    isplitl [H12a H12b H12c]
    · iapply (slot_join A B c 12); isplitl [H12a]; · iexact H12a
      isplitl [H12b]; · iexact H12b
      iexact H12c
    isplitl [H13a H13b H13c]
    · iapply (slot_join A B c 13); isplitl [H13a]; · iexact H13a
      isplitl [H13b]; · iexact H13b
      iexact H13c
    isplitl [H14a H14b H14c]
    · iapply (slot_join A B c 14); isplitl [H14a]; · iexact H14a
      isplitl [H14b]; · iexact H14b
      iexact H14c
    iapply (slot_join A B c 15); isplitl [H15a]; · iexact H15a
    isplitl [H15b]; · iexact H15b
    iexact H15c
  isplitr [L0 L1 L2 L3 L4 L5 L6]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  isplitl [L0]; · iexact L0
  isplitl [L1]; · iexact L1
  isplitl [L2]; · iexact L2
  isplitl [L3]; · iexact L3
  isplitl [L4]; · iexact L4
  isplitl [L5]; · iexact L5
  iexact L6

theorem hz3 : (![0, 0, 0] : Fin 3 → Nat) = fun _ => 0 := by decide
theorem hz2 : (![0, 0] : Fin 2 → Nat) = fun _ => 0 := by decide

/-! ## The steps at named slots -/

theorem dev_step (c : Dev nD) (K : Dev nD → sProp 𝕄) :
    K c ⊢ wp frame (wpE (defs₀ (F := F)) 𝒱₀ (c : Thread nD τ) none) Set.univ (Prog.lift .deviceId) K := by
  unfold Prog.lift
  rw [wp_deviceId, wp_ret]
  iintro H; imodintro; iexact H

theorem start_at (c : Dev nD) (k : Hop) (s : Fin 16) (q : PosShare TreeShare) (hs : hsrc k = s) (hq : hsh k = q) (O : CellTallies nD τ sig Unit) (W : Waits sig Unit) (Q : PUnit → sProp 𝕄) :
    iprop(Inv A B κ ∗ slot A B c s q ∗ ready c k ∗ owes (c : Thread nD τ) (hopO c k O) W
        ∗ ((live c k ∗ owes (c : Thread nD τ) O W) -∗ Q ⟨⟩))
      ⊢ wp frame (wpE (defs₀ (F := F)) 𝒱₀ (c : Thread nD τ) none) Set.univ (startH (tgt c k) k) Q := by
  subst hs hq; exact start_step' A B κ c k O W Q

/-- The two arrivals' waits, the two sources' waits, of a hop. -/
theorem recv_at (c : Dev nD) (k : Hop) (t : Fin 16) (n : ℕ) (ht : hdst k = t) (hn : 2 + hno k = n) (O : CellTallies nD τ sig Unit) (hO : Above n O) (W : Waits sig Unit) (Q : PUnit → sProp 𝕄) :
    iprop(Inv A B κ ∗ levAts L lv ∗ live c k ∗ owes (c : Thread nD τ) O W
        ∗ ((∃ W', (crd c k false ∗ pos c k false 0) ∗ pos c k true 1 ∗ slot A B c t fullShare ∗ owes (c : Thread nD τ) O W') -∗ Q ⟨⟩))
      ⊢ wp frame (wpE (defs₀ (F := F)) 𝒱₀ (c : Thread nD τ) none) Set.univ (recvH k) Q := by
  subst ht hn
  unfold live
  iintro ⟨HI, Hl, ⟨Hc, Hp, Hc', Hp'⟩, HO, HK⟩
  iapply (recv_step A B κ c k O hO W Q)
  isplitl [HI]; · iexact HI
  isplitl [Hl]; · iexact Hl
  isplitl [Hc']; · iexact Hc'
  isplitl [Hp']; · iexact Hp'
  isplitl [HO]; · iexact HO
  iintro ⟨%W', Hp', Hs, HO⟩
  iapply HK
  iexists W'
  isplitl [Hc Hp]
  · isplitl [Hc]; · iexact Hc
    iexact Hp
  isplitl [Hp']; · iexact Hp'
  isplitl [Hs]; · iexact Hs
  iexact HO
theorem sent_at (c : Dev nD) (k : Hop) (s : Fin 16) (q : PosShare TreeShare) (hs : hsrc k = s) (hq : hsh k = q) (O : CellTallies nD τ sig Unit) (hO : Above 0 O) (W : Waits sig Unit) (Q : PUnit → sProp 𝕄) :
    iprop(Inv A B κ ∗ levAts L lv ∗ (crd c k false ∗ pos c k false 0) ∗ pos c k true 1 ∗ owes (c : Thread nD τ) O W
        ∗ ((∃ W', over c k ∗ slot A B c s q ∗ owes (c : Thread nD τ) O W') -∗ Q ⟨⟩))
      ⊢ wp frame (wpE (defs₀ (F := F)) 𝒱₀ (c : Thread nD τ) none) Set.univ (sentH k) Q := by
  subst hs hq
  iintro ⟨HI, Hl, ⟨Hc, Hp⟩, Hp', HO, HK⟩
  iapply (sent_step A B κ c k O hO W Q)
  isplitl [HI]; · iexact HI
  isplitl [Hl]; · iexact Hl
  isplitl [Hc]; · iexact Hc
  isplitl [Hp]; · iexact Hp
  isplitl [HO]; · iexact HO
  iintro ⟨%W', Hp, Hs, HO⟩
  iapply HK
  iexists W'
  unfold over
  isplitl [Hp Hp']
  · isplitl [Hp]; · iexact Hp
    iexact Hp'
  isplitl [Hs]; · iexact Hs
  iexact HO

theorem round_at (c : Dev nD) (x : FVec F S512x512 .bf16) (g3 g4 : Vec F S64x2x256x64 .bf16) (h : Fin 6) (j : Fin 7) (kR kL kR' kL' : Hop) (n n' : ℕ)
    (ej : r0 h = j) (eR : hR (r0 h) = kR) (eL : hL (r0 h) = kL) (eR' : hR (r1 h) = kR') (eL' : hL (r1 h) = kL') (en : h.val = n) (en' : h.val + 1 = n')
    (acc : FVec F S512x512 .f32) (W : Waits sig Unit) (Q : FVec F S512x512 .f32 → sProp 𝕄) :
    iprop(Inv A B κ ∗ levAts L lv ∗ live c kR ∗ live c kL ∗ ready c kR' ∗ ready c kL' ∗ kvPt c g3 g4 ∗ owes (c : Thread nD τ) (rest c n) W
        ∗ ((∃ W', left A B c j ∗ live c kR' ∗ live c kL' ∗ kvPt c g3 g4 ∗ owes (c : Thread nD τ) (rest c n') W') -∗ Q (roundV A B c x g3 g4 h acc)))
      ⊢ wp frame (wpE (defs₀ (F := F)) 𝒱₀ (c : Thread nD τ) none) Set.univ (roundP c maskV x h acc) Q := by
  subst ej eR eL eR' eL' en en'; exact round_step A B κ c x g3 g4 h acc W Q

/-! ## The loads and stores of the body outside the rounds -/

theorem ldX (c : Dev nD) (f : Vec F S2x256x512 .bf16) (inb : ∀ a, (![0, 0, 0] : Fin S2x256x512.rank → Nat) a + S2x256x512.size a ≤ S2x256x512.size a) (hl) (K : Vec F S2x256x512 .bf16 → sProp 𝕄) :
    iprop(stgPt c cc0_stg0_0 f ∗ (stgPt c cc0_stg0_0 f -∗ K f))
      ⊢ wp frame (wpE (defs₀ (F := F)) 𝒱₀ (c : Thread nD τ) none) Set.univ
          (Prog.lift (.load XM (Rect.unit (s := S2x256x512) ![0, 0, 0] S2x256x512.size inb).toLoadRect hl)) K := by
  have hv : XM.view.readAt (Elt F) (Rect.unit (s := S2x256x512) ![0, 0, 0] S2x256x512.size inb).toLoadRect f = f := Memref.readAt_unit_zero (Elt F) cc0_stg0_0 hz3 inb f
  have h := ld_step (F := F) c XM (Rect.unit (s := S2x256x512) ![0, 0, 0] S2x256x512.size inb).toLoadRect hl fullShare f (Finset.subset_univ _) f hv K
  exact h
theorem ldA (c : Dev nD) (f : Vec F S512x256 .bf16) (inb : ∀ a, (![0, 0] : Fin S512x256.rank → Nat) a + S512x256.size a ≤ S512x256.size a) (hl) (K : Vec F S512x256 .bf16 → sProp 𝕄) :
    iprop(stgPt c cc0_stg1_0 f ∗ (stgPt c cc0_stg1_0 f -∗ K f))
      ⊢ wp frame (wpE (defs₀ (F := F)) 𝒱₀ (c : Thread nD τ) none) Set.univ
          (Prog.lift (.load AM (Rect.unit (s := S512x256) ![0, 0] S512x256.size inb).toLoadRect hl)) K := by
  have hv : AM.view.readAt (Elt F) (Rect.unit (s := S512x256) ![0, 0] S512x256.size inb).toLoadRect f = f := Memref.readAt_unit_zero (Elt F) cc0_stg1_0 hz2 inb f
  have h := ld_step (F := F) c AM (Rect.unit (s := S512x256) ![0, 0] S512x256.size inb).toLoadRect hl fullShare f (Finset.subset_univ _) f hv K
  exact h
theorem ldB (c : Dev nD) (f : Vec F S256x512 .bf16) (inb : ∀ a, (![0, 0] : Fin S256x512.rank → Nat) a + S256x512.size a ≤ S256x512.size a) (hl) (K : Vec F S256x512 .bf16 → sProp 𝕄) :
    iprop(stgPt c cc0_stg2_0 f ∗ (stgPt c cc0_stg2_0 f -∗ K f))
      ⊢ wp frame (wpE (defs₀ (F := F)) 𝒱₀ (c : Thread nD τ) none) Set.univ
          (Prog.lift (.load BM (Rect.unit (s := S256x512) ![0, 0] S256x512.size inb).toLoadRect hl)) K := by
  have hv : BM.view.readAt (Elt F) (Rect.unit (s := S256x512) ![0, 0] S256x512.size inb).toLoadRect f = f := Memref.readAt_unit_zero (Elt F) cc0_stg2_0 hz2 inb f
  have h := ld_step (F := F) c BM (Rect.unit (s := S256x512) ![0, 0] S256x512.size inb).toLoadRect hl fullShare f (Finset.subset_univ _) f hv K
  exact h
theorem ldY (c : Dev nD) (f : Vec F S2x256x512 .f32) (inb : ∀ a, (![0, 0, 0] : Fin S2x256x512.rank → Nat) a + S2x256x512.size a ≤ S2x256x512.size a) (hl) (K : Vec F S2x256x512 .f32 → sProp 𝕄) :
    iprop(stgPt c cc0_stg5_0 f ∗ (stgPt c cc0_stg5_0 f -∗ K f))
      ⊢ wp frame (wpE (defs₀ (F := F)) 𝒱₀ (c : Thread nD τ) none) Set.univ
          (Prog.lift (.load YM (Rect.unit (s := S2x256x512) ![0, 0, 0] S2x256x512.size inb).toLoadRect hl)) K := by
  have hv : YM.view.readAt (Elt F) (Rect.unit (s := S2x256x512) ![0, 0, 0] S2x256x512.size inb).toLoadRect f = f := Memref.readAt_unit_zero (Elt F) cc0_stg5_0 hz3 inb f
  have h := ld_step (F := F) c YM (Rect.unit (s := S2x256x512) ![0, 0, 0] S2x256x512.size inb).toLoadRect hl fullShare f (Finset.subset_univ _) f hv K
  exact h
theorem stY (c : Dev nD) (f w : Vec F S2x256x512 .f32) (inb : ∀ a, (![0, 0, 0] : Fin S2x256x512.rank → Nat) a + S2x256x512.size a ≤ S2x256x512.size a) (hx hm) (K : PUnit → sProp 𝕄) :
    iprop(stgPt c cc0_stg5_0 f ∗ (stgPt c cc0_stg5_0 w -∗ K ⟨⟩))
      ⊢ wp frame (wpE (defs₀ (F := F)) 𝒱₀ (c : Thread nD τ) none) Set.univ
          (Prog.lift (.store YM (Rect.unit (s := S2x256x512) ![0, 0, 0] S2x256x512.size inb) w Finset.univ hx hm)) K := by
  have hv : (YM.access (Rect.unit (s := S2x256x512) ![0, 0, 0] S2x256x512.size inb)).write (Elt F) f w Finset.univ = w := Memref.write_access_unit_zero_univ (Elt F) cc0_stg5_0 hz3 inb f w
  have h := st_step (F := F) c YM (Rect.unit (s := S2x256x512) ![0, 0, 0] S2x256x512.size inb) w hx hm f w (Finset.subset_univ _) (fun i _ => congrFun hv i) K
  exact h
/-- The dead load of slot 0, and the store of the device's own block there. -/
theorem ldQ0 (c : Dev nD) (hl) (K : Vec F S1x512x256 .bf16 → sProp 𝕄) (f) :
    iprop(qPt (F := F) c 0 fullShare f ∗ ∀ v, qPt (F := F) c 0 fullShare f -∗ K v)
      ⊢ wp frame (wpE (defs₀ (F := F)) 𝒱₀ (c : Thread nD τ) none) Set.univ (Prog.lift (.load QM (rectQ 0).toLoadRect hl)) K := by
  iintro ⟨H, HK⟩
  unfold qPt
  iapply (ld_step c QM (rectQ 0).toLoadRect hl fullShare f (setOn_q 0) _ rfl K)
  isplitl [H]; · iexact H
  iintro H
  iapply HK; iexact H
theorem ldO0 (c : Dev nD) (hl) (K : Vec F S1x256x512 .bf16 → sProp 𝕄) (f) :
    iprop(oPt (F := F) c 0 fullShare f ∗ ∀ v, oPt (F := F) c 0 fullShare f -∗ K v)
      ⊢ wp frame (wpE (defs₀ (F := F)) 𝒱₀ (c : Thread nD τ) none) Set.univ (Prog.lift (.load OM (rectO 0).toLoadRect hl)) K := by
  iintro ⟨H, HK⟩
  unfold oPt
  iapply (ld_step c OM (rectO 0).toLoadRect hl fullShare f (setOn_o 0) _ rfl K)
  isplitl [H]; · iexact H
  iintro H
  iapply HK; iexact H
theorem stQ0 (c : Dev nD) (hx hm) (K : PUnit → sProp 𝕄) (f) :
    iprop(qPt (F := F) c 0 fullShare f ∗ (qPt (F := F) c 0 fullShare (qbuf A c) -∗ K ⟨⟩))
      ⊢ wp frame (wpE (defs₀ (F := F)) 𝒱₀ (c : Thread nD τ) none) Set.univ (Prog.lift (.store QM (rectQ 0) (k0_pay1 (A c)) Finset.univ hx hm)) K := by
  unfold qPt
  exact st_step c QM (rectQ 0) _ hx hm f (qbuf A c) (storeOn_q 0) (stored_q A c f) K
theorem stO0 (c : Dev nD) (hx hm) (K : PUnit → sProp 𝕄) (f) :
    iprop(oPt (F := F) c 0 fullShare f ∗ (oPt (F := F) c 0 fullShare (obuf B c) -∗ K ⟨⟩))
      ⊢ wp frame (wpE (defs₀ (F := F)) 𝒱₀ (c : Thread nD τ) none) Set.univ (Prog.lift (.store OM (rectO 0) (k0_pay2 (B c)) Finset.univ hx hm)) K := by
  unfold oPt
  exact st_step c OM (rectO 0) _ hx hm f (obuf B c) (storeOn_o 0) (stored_o B c f) K

abbrev bodyP : Prog (TpuEff nD τ sig (Elt F) Λ₀ .tc) PUnit :=
  cc0__body XM (Memref.isWhole_whole _) AM (Memref.isWhole_whole _) BM (Memref.isWhole_whole _) KM (Memref.isWhole_whole _) VM (Memref.isWhole_whole _) YM (Memref.isWhole_whole _)
    QM (Memref.isWhole_whole _) OM (Memref.isWhole_whole _) cc0_scratch2 cc0_scratch3 cc0_scratch4 cc0_scratch5 cc0_scratch6 cc0_scratch7 cc0_scratch8 cc0_scratch9 cc0_scoped0

set_option maxHeartbeats 8000000 in
theorem body_step (c : Dev nD) (x : Vec F S2x256x512 .bf16) (g3 g4 : Vec F S64x2x256x64 .bf16) (y : Vec F S2x256x512 .f32) (W : Waits sig Unit) (Q : PUnit → sProp 𝕄) :
    iprop(Inv A B κ ∗ levAts L lv ∗ bars c ∗ fins c ∗ ghosts c ∗ slots c
        ∗ stgPt c cc0_stg0_0 x ∗ stgPt c cc0_stg1_0 (A c) ∗ stgPt c cc0_stg2_0 (B c) ∗ kvPt c g3 g4 ∗ stgPt c cc0_stg5_0 y
        ∗ owes (c : Thread nD τ) (O₀ c) W
        ∗ ((∃ W', ended A B c ∗ atPos ER (barCell c) 1 ∅ 0 ∗ atPos ER (finCell c) 1 ∅ 0
            ∗ stgPt c cc0_stg0_0 x ∗ stgPt c cc0_stg1_0 (A c) ∗ stgPt c cc0_stg2_0 (B c) ∗ kvPt c g3 g4 ∗ stgPt c cc0_stg5_0 (outV A B c x g3 g4)
            ∗ owes (c : Thread nD τ) 0 W') -∗ Q ⟨⟩))
      ⊢ wp frame (wpE (defs₀ (F := F)) 𝒱₀ (c : Thread nD τ) none) Set.univ bodyP Q := by
  unfold bodyP
  rw [body_eq_clean]
  unfold clean
  simp -proj only [recvR_eq, recvL_eq, startR_eq, startL_eq, sentR_eq, sentL_eq, rgt_eq, lft_eq, wp_bind]
  unfold bars fins slots free O₀ O₁
  iintro ⟨#HI, #Hlev, ⟨HtP, #HrP, HtN, #HrN, HcB, HpB⟩, ⟨HuP, HuN, #HrF, HcF, HpF⟩, Hgh, ⟨⟨⟨%fq, Hfq⟩, ⟨%fo, Hfo⟩⟩, HgR, HgL⟩, Hx, Ha, Hb, Hkv, Hy, HO, HK⟩
  iapply (dev_step c _)
  -- the first barrier
  iapply (sig_step A B κ c (prv c) barS.sem true (by rw [duties_bar]; exact Finset.mem_univ _) (amount_bar A B (prv c) true) _ W _)
  isplitr; · iapply (Inv_bar A B κ (prv c)); iexact HI
  isplitl [HO]; · iexact HO
  isplitl [HtP]; · iexact HtP
  isplitl [HgR]
  · rw [payload_bar_true]; unfold barPayT; rw [nxt_prv]
    isplitl [HgR]; · iexact HgR
    iexact HrF
  isplitr; · iexact HrP
  iintro HO
  iapply (sig_step A B κ c (nxt c) barS.sem false (by rw [duties_bar]; exact Finset.mem_univ _) (amount_bar A B (nxt c) false) _ W _)
  isplitr; · iapply (Inv_bar A B κ (nxt c)); iexact HI
  isplitl [HO]; · iexact HO
  isplitl [HtN]; · iexact HtN
  isplitl [HgL]
  · rw [payload_bar_false]; unfold barPayF; rw [prv_nxt]
    isplitl [HgL]; · iexact HgL
    iexact HrF
  isplitr; · iexact HrN
  iintro HO
  iapply (wait2_step A B κ c barS.sem 1 (le_of_eq (lv_bar c ())) (expect_bar A B c) (O₂ c) (above_O₂ (by omega) c) W _)
  isplitr; · iapply (Inv_bar A B κ c); iexact HI
  isplitr; · iexact Hlev
  isplitl [HcB]; · iexact HcB
  isplitl [HO]; · iexact HO
  isplitl [HpB]; · iexact HpB
  iintro ⟨%W1, HO, HpB, Hpay⟩
  ihave Hpay := (Entails.of_eq (rest_bar A B c)) $$ Hpay
  ihave Hrdy := (readies c) $$ [Hgh Hpay]
  · isplitl [Hgh]; · iexact Hgh
    iexact Hpay
  icases Hrdy with ⟨HyR, HyL, #HrFP, #HrFN⟩
  ihave HyR := (Entails.of_eq (seps8 _)) $$ HyR
  ihave HyL := (Entails.of_eq (seps7 _)) $$ HyL
  icases HyR with ⟨HyR0, HyR1, HyR2, HyR3, HyR4, HyR5, HyR6, HyR7⟩
  icases HyL with ⟨HyL0, HyL1, HyL2, HyL3, HyL4, HyL5, HyL6⟩
  -- the device's own blocks
  iapply (ldA c (A c) inb_S512x256_S512x256_0_0 _ _)
  isplitl [Ha]; · iexact Ha
  iintro Ha
  iapply (ldQ0 c _ _ fq)
  isplitl [Hfq]; · iexact Hfq
  iintro %_ Hfq
  iapply (stQ0 A c _ _ _ fq)
  isplitl [Hfq]; · iexact Hfq
  iintro Hq
  iapply (ldB c (B c) inb_S256x512_S256x512_0_0 _ _)
  isplitl [Hb]; · iexact Hb
  iintro Hb
  iapply (ldO0 c _ _ fo)
  isplitl [Hfo]; · iexact Hfo
  iintro %_ Hfo
  iapply (stO0 B c _ _ _ fo)
  isplitl [Hfo]; · iexact Hfo
  iintro Ho
  iapply (ldX c x inb_S2x256x512_S2x256x512_0_0_0 _ _)
  isplitl [Hx]; · iexact Hx
  iintro Hx
  ihave H0 := (slot_cut A B c 0) $$ [Hq Ho]
  · unfold slot
    isplitl [Hq]; · iexact Hq
    iexact Ho
  icases H0 with ⟨H0a, H0b, H0c⟩
  -- the first hops and the device's own block
  rw [O₂_eq]
  iapply (start_at A B κ c (.inl 0) 0 shA rfl rfl _ W1 _)
  isplitr; · iexact HI
  isplitl [H0a]; · iexact H0a
  isplitl [HyR0]; · iexact HyR0
  isplitl [HO]; · iexact HO
  iintro ⟨HlR, HO⟩
  iapply (start_at A B κ c (.inr 0) 0 shB rfl rfl _ W1 _)
  isplitr; · iexact HI
  isplitl [H0b]; · iexact H0b
  isplitl [HyL0]; · iexact HyL0
  isplitl [HO]; · iexact HO
  iintro ⟨HlL, HO⟩
  iapply (contrib_step A B c _ g3 g4 0 _ shC _)
  isplitl [H0c]; · iexact H0c
  isplitl [Hkv]; · iexact Hkv
  iintro ⟨H0c, Hkv⟩
  iapply (round_at A B κ c _ g3 g4 0 0 (.inl 0) (.inr 0) (.inl 1) (.inr 1) 0 1 rfl rfl rfl rfl rfl rfl rfl _ W1 _)
  isplitr; · iexact HI
  isplitr; · iexact Hlev
  isplitl [HlR]; · iexact HlR
  isplitl [HlL]; · iexact HlL
  isplitl [HyR1]; · iexact HyR1
  isplitl [HyL1]; · iexact HyL1
  isplitl [Hkv]; · iexact Hkv
  isplitl [HO]; · iexact HO
  iintro ⟨%W2, HF0, HlR, HlL, Hkv, HO⟩
  iapply (round_at A B κ c _ g3 g4 1 1 (.inl 1) (.inr 1) (.inl 2) (.inr 2) 1 2 rfl rfl rfl rfl rfl rfl rfl _ W2 _)
  isplitr; · iexact HI
  isplitr; · iexact Hlev
  isplitl [HlR]; · iexact HlR
  isplitl [HlL]; · iexact HlL
  isplitl [HyR2]; · iexact HyR2
  isplitl [HyL2]; · iexact HyL2
  isplitl [Hkv]; · iexact Hkv
  isplitl [HO]; · iexact HO
  iintro ⟨%W3, HF1, HlR, HlL, Hkv, HO⟩
  iapply (round_at A B κ c _ g3 g4 2 2 (.inl 2) (.inr 2) (.inl 3) (.inr 3) 2 3 rfl rfl rfl rfl rfl rfl rfl _ W3 _)
  isplitr; · iexact HI
  isplitr; · iexact Hlev
  isplitl [HlR]; · iexact HlR
  isplitl [HlL]; · iexact HlL
  isplitl [HyR3]; · iexact HyR3
  isplitl [HyL3]; · iexact HyL3
  isplitl [Hkv]; · iexact Hkv
  isplitl [HO]; · iexact HO
  iintro ⟨%W4, HF2, HlR, HlL, Hkv, HO⟩
  iapply (round_at A B κ c _ g3 g4 3 3 (.inl 3) (.inr 3) (.inl 4) (.inr 4) 3 4 rfl rfl rfl rfl rfl rfl rfl _ W4 _)
  isplitr; · iexact HI
  isplitr; · iexact Hlev
  isplitl [HlR]; · iexact HlR
  isplitl [HlL]; · iexact HlL
  isplitl [HyR4]; · iexact HyR4
  isplitl [HyL4]; · iexact HyL4
  isplitl [Hkv]; · iexact Hkv
  isplitl [HO]; · iexact HO
  iintro ⟨%W5, HF3, HlR, HlL, Hkv, HO⟩
  iapply (round_at A B κ c _ g3 g4 4 4 (.inl 4) (.inr 4) (.inl 5) (.inr 5) 4 5 rfl rfl rfl rfl rfl rfl rfl _ W5 _)
  isplitr; · iexact HI
  isplitr; · iexact Hlev
  isplitl [HlR]; · iexact HlR
  isplitl [HlL]; · iexact HlL
  isplitl [HyR5]; · iexact HyR5
  isplitl [HyL5]; · iexact HyL5
  isplitl [Hkv]; · iexact Hkv
  isplitl [HO]; · iexact HO
  iintro ⟨%W6, HF4, HlR, HlL, Hkv, HO⟩
  iapply (round_at A B κ c _ g3 g4 5 5 (.inl 5) (.inr 5) (.inl 6) (.inr 6) 5 6 rfl rfl rfl rfl rfl rfl rfl _ W6 _)
  isplitr; · iexact HI
  isplitr; · iexact Hlev
  isplitl [HlR]; · iexact HlR
  isplitl [HlL]; · iexact HlL
  isplitl [HyR6]; · iexact HyR6
  isplitl [HyL6]; · iexact HyL6
  isplitl [Hkv]; · iexact Hkv
  isplitl [HO]; · iexact HO
  iintro ⟨%W7, HF5, HlR, HlL, Hkv, HO⟩
  -- the last arrivals
  iapply (recv_at A B κ c (.inl 6) 9 8 rfl rfl (rest c 6) (above_rest c 6) _ _)
  isplitr; · iexact HI
  isplitr; · iexact Hlev
  isplitl [HlR]; · iexact HlR
  isplitl [HO]; · iexact HO
  iintro ⟨%W8, HcR, HpR, H9, HO⟩
  iapply (recv_at A B κ c (.inr 6) 7 8 rfl rfl (rest c 6) (above_rest c 6) _ _)
  isplitr; · iexact HI
  isplitr; · iexact Hlev
  isplitl [HlL]; · iexact HlL
  isplitl [HO]; · iexact HO
  iintro ⟨%W9, HcL, HpL, H7, HO⟩
  ihave H9 := (slot_cut A B c 9) $$ H9
  icases H9 with ⟨H9a, H9b, H9c⟩
  rw [rest_six]
  iapply (start_at A B κ c (.inl 7) 9 shA rfl rfl _ W9 _)
  isplitr; · iexact HI
  isplitl [H9a]; · iexact H9a
  isplitl [HyR7]; · iexact HyR7
  isplitl [HO]; · iexact HO
  iintro ⟨HlR, HO⟩
  iapply (sent_at A B κ c (.inl 6) 10 shA rfl rfl (finO c) (above_finO (by omega) c) _ _)
  isplitr; · iexact HI
  isplitr; · iexact Hlev
  isplitl [HcR]; · iexact HcR
  isplitl [HpR]; · iexact HpR
  isplitl [HO]; · iexact HO
  iintro ⟨%W10, HvR6, H10a, HO⟩
  iapply (sent_at A B κ c (.inr 6) 6 shB rfl rfl (finO c) (above_finO (by omega) c) _ _)
  isplitr; · iexact HI
  isplitr; · iexact Hlev
  isplitl [HcL]; · iexact HcL
  isplitl [HpL]; · iexact HpL
  isplitl [HO]; · iexact HO
  iintro ⟨%W11, HvL6, H6b, HO⟩
  iapply (contrib_step A B c _ g3 g4 9 _ shC _)
  isplitl [H9c]; · iexact H9c
  isplitl [Hkv]; · iexact Hkv
  iintro ⟨H9c, Hkv⟩
  iapply (contrib_step A B c _ g3 g4 7 _ fullShare _)
  isplitl [H7]; · iexact H7
  isplitl [Hkv]; · iexact Hkv
  iintro ⟨H7, Hkv⟩
  iapply (recv_at A B κ c (.inl 7) 8 9 rfl rfl (finO c) (above_finO (by omega) c) _ _)
  isplitr; · iexact HI
  isplitr; · iexact Hlev
  isplitl [HlR]; · iexact HlR
  isplitl [HO]; · iexact HO
  iintro ⟨%W12, HcR, HpR, H8, HO⟩
  iapply (sent_at A B κ c (.inl 7) 9 shA rfl rfl (finO c) (above_finO (by omega) c) _ _)
  isplitr; · iexact HI
  isplitr; · iexact Hlev
  isplitl [HcR]; · iexact HcR
  isplitl [HpR]; · iexact HpR
  isplitl [HO]; · iexact HO
  iintro ⟨%W13, HvR7, H9a, HO⟩
  iapply (contrib_step A B c _ g3 g4 8 _ fullShare _)
  isplitl [H8]; · iexact H8
  isplitl [Hkv]; · iexact Hkv
  iintro ⟨H8, Hkv⟩
  -- the result
  iapply (ldY c y inb_S2x256x512_S2x256x512_0_0_0 _ _)
  isplitl [Hy]; · iexact Hy
  iintro Hy
  iapply (stY c y (outV A B c x g3 g4) inb_S2x256x512_S2x256x512_0_0_0 _ _ _)
  isplitl [Hy]; · iexact Hy
  iintro Hy
  -- the last barrier
  unfold finO finO₁
  iapply (sig_step A B κ c (prv c) finS.sem true (by rw [duties_fin]; exact Finset.mem_univ _) (amount_fin A B (prv c) true) _ W13 _)
  isplitr; · iapply (Inv_own A B κ (prv c) none); iexact HI
  isplitl [HO]; · iexact HO
  isplitl [HuP]; · iexact HuP
  isplitr; · rw [payload_fin]; iempintro
  isplitr; · iexact HrFP
  iintro HO
  iapply (sig_step A B κ c (nxt c) finS.sem false (by rw [duties_fin]; exact Finset.mem_univ _) (amount_fin A B (nxt c) false) _ W13 _)
  isplitr; · iapply (Inv_own A B κ (nxt c) none); iexact HI
  isplitl [HO]; · iexact HO
  isplitl [HuN]; · iexact HuN
  isplitr; · rw [payload_fin]; iempintro
  isplitr; · iexact HrFN
  iintro HO
  iapply (wait2_step A B κ c finS.sem 100 (le_of_eq (lv_fin c ())) (expect_fin A B c) 0 (above_zero _) W13 _)
  isplitr; · iapply (Inv_own A B κ c none); iexact HI
  isplitr; · iexact Hlev
  isplitl [HcF]; · iexact HcF
  isplitl [HO]; · iexact HO
  isplitl [HpF]; · iexact HpF
  iintro ⟨%W14, HO, HpF, -⟩
  rw [wp_pure]; imodintro
  iapply HK
  iexists W14
  isplitl [H0c HF0 HF1 HF2 HF3 HF4 HF5 HvR6 HvL6 HvR7 H10a H6b H9a H9b H9c H7 H8]
  · iapply (ended_of A B c)
    isplitl [H0c]; · iexact H0c
    isplitl [HF0]; · iexact HF0
    isplitl [HF1]; · iexact HF1
    isplitl [HF2]; · iexact HF2
    isplitl [HF3]; · iexact HF3
    isplitl [HF4]; · iexact HF4
    isplitl [HF5]; · iexact HF5
    unfold last
    isplitl [HvR6]; · iexact HvR6
    isplitl [HvL6]; · iexact HvL6
    isplitl [HvR7]; · iexact HvR7
    isplitl [H10a]; · iexact H10a
    isplitl [H6b]; · iexact H6b
    isplitl [H9a H9b H9c]
    · isplitl [H9a]; · iexact H9a
      isplitl [H9b]; · iexact H9b
      iexact H9c
    isplitl [H7]; · iexact H7
    iexact H8
  isplitl [HpB]; · iexact HpB
  isplitl [HpF]; · iexact HpF
  isplitl [Hx]; · iexact Hx
  isplitl [Ha]; · iexact Ha
  isplitl [Hb]; · iexact Hb
  isplitl [Hkv]; · iexact Hkv
  isplitl [Hy]; · iexact Hy
  iexact HO

end WithContents

end Cert.KernelIdeal.K
end
end
-- ==== Proof.KI.Slots.lean ====
module

public import proofs.«01_k».proof.Proof.KI.Whole
public import Idealize.ShloMosaic.Lib.Ring

/-! The two buffers cut into slots and joined again, and a device's own semaphore cells opened and closed together. -/

@[expose] public section

set_option synthInstance.maxSize 4096

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A buffer and its slots -/

theorem mem_rectQ (s : Fin 16) (y : S16x512x256.Idx) : y ∈ (rectQ s).set ↔ (y 0).val = s.val := by
  rw [Rect.mem_set_unit]
  have h1 : (y 1).val < 512 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 256; omega
theorem mem_rectO (s : Fin 16) (y : S16x256x512.Idx) : y ∈ (rectO s).set ↔ (y 0).val = s.val := by
  rw [Rect.mem_set_unit]
  have h1 : (y 1).val < 256 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 512; omega

abbrev setQ (s : Fin 16) : Finset S16x512x256.Idx := (rectQ s).set
abbrev setO (s : Fin 16) : Finset S16x256x512.Idx := (rectO s).set
theorem setQ_disjoint : ∀ s s' : Fin 16, s ≠ s' → Disjoint (setQ s) (setQ s') := fun s s' h => by
  rw [Finset.disjoint_left]; intro y hy hy'
  exact h (Fin.ext (((mem_rectQ s y).mp hy).symm.trans ((mem_rectQ s' y).mp hy')))
theorem setO_disjoint : ∀ s s' : Fin 16, s ≠ s' → Disjoint (setO s) (setO s') := fun s s' h => by
  rw [Finset.disjoint_left]; intro y hy hy'
  exact h (Fin.ext (((mem_rectO s y).mp hy).symm.trans ((mem_rectO s' y).mp hy')))
theorem setQ_cover : Finset.univ.biUnion setQ = Finset.univ := by
  ext y; simp only [Finset.mem_biUnion, Finset.mem_univ, true_and, iff_true]
  exact ⟨⟨(y 0).val, (y 0).isLt⟩, (mem_rectQ _ y).mpr rfl⟩
theorem setO_cover : Finset.univ.biUnion setO = Finset.univ := by
  ext y; simp only [Finset.mem_biUnion, Finset.mem_univ, true_and, iff_true]
  exact ⟨⟨(y 0).val, (y 0).isLt⟩, (mem_rectO _ y).mpr rfl⟩

theorem qPt_eq (c : Dev nD) (s : Fin 16) (q : PosShare TreeShare) (f) :
    (qPt (F := F) c s q f) = (((c : Thread nD τ).loc cc0_scratch0) ↦[setQ s]{q} f : sProp 𝕄) :=
  congrArg (fun S => (((c : Thread nD τ).loc cc0_scratch0) ↦[S]{q} f : sProp 𝕄)) (sQ_set s)
theorem oPt_eq (c : Dev nD) (s : Fin 16) (q : PosShare TreeShare) (f) :
    (oPt (F := F) c s q f) = (((c : Thread nD τ).loc cc0_scratch1) ↦[setO s]{q} f : sProp 𝕄) :=
  congrArg (fun S => (((c : Thread nD τ).loc cc0_scratch1) ↦[S]{q} f : sProp 𝕄)) (sO_set s)

/-- A buffer of the kernel's own, whole, at contents not chosen. -/
abbrev wholeQ (c : Dev nD) : sProp 𝕄 := iprop(∃ f : Buf (Elt F) ((c : Thread nD τ).loc cc0_scratch0), ((c : Thread nD τ).loc cc0_scratch0) ↦{fullShare} f)
abbrev wholeO (c : Dev nD) : sProp 𝕄 := iprop(∃ f : Buf (Elt F) ((c : Thread nD τ).loc cc0_scratch1), ((c : Thread nD τ).loc cc0_scratch1) ↦{fullShare} f)

theorem cutQ (c : Dev nD) : wholeQ (F := F) c ⊢ bigSep Finset.univ fun s : Fin 16 => iprop(∃ f, qPt (F := F) c s fullShare f) := by
  unfold wholeQ
  iintro ⟨%f, H⟩
  ihave H2 := (Entails.of_eq (Ring.pointsTo_blocks (Ix := Unit) (Name := ℕ) (U := UU) (Lvl := ℕ) (q := fullShare) (ℓ := (c : Thread nD τ).loc cc0_scratch0) setQ setQ_disjoint setQ_cover f)) $$ H
  have hm : ∀ s ∈ (Finset.univ : Finset (Fin 16)), (((c : Thread nD τ).loc cc0_scratch0) ↦[setQ s]{fullShare} f : sProp 𝕄) ⊢ iprop(∃ f, qPt (F := F) c s fullShare f) := fun s _ => by
    rw [← qPt_eq]
    iintro H; iexists f; iexact H
  iapply (show (bigSep Finset.univ fun s : Fin 16 => (((c : Thread nD τ).loc cc0_scratch0) ↦[setQ s]{fullShare} f : sProp 𝕄)) ⊢ bigSep Finset.univ fun s : Fin 16 => iprop(∃ f, qPt (F := F) c s fullShare f) from bigSep_mono hm) $$ H2
theorem cutO (c : Dev nD) : wholeO (F := F) c ⊢ bigSep Finset.univ fun s : Fin 16 => iprop(∃ f, oPt (F := F) c s fullShare f) := by
  unfold wholeO
  iintro ⟨%f, H⟩
  ihave H2 := (Entails.of_eq (Ring.pointsTo_blocks (Ix := Unit) (Name := ℕ) (U := UU) (Lvl := ℕ) (q := fullShare) (ℓ := (c : Thread nD τ).loc cc0_scratch1) setO setO_disjoint setO_cover f)) $$ H
  have hm : ∀ s ∈ (Finset.univ : Finset (Fin 16)), (((c : Thread nD τ).loc cc0_scratch1) ↦[setO s]{fullShare} f : sProp 𝕄) ⊢ iprop(∃ f, oPt (F := F) c s fullShare f) := fun s _ => by
    rw [← oPt_eq]
    iintro H; iexists f; iexact H
  iapply (show (bigSep Finset.univ fun s : Fin 16 => (((c : Thread nD τ).loc cc0_scratch1) ↦[setO s]{fullShare} f : sProp 𝕄)) ⊢ bigSep Finset.univ fun s : Fin 16 => iprop(∃ f, oPt (F := F) c s fullShare f) from bigSep_mono hm) $$ H2

theorem joinQ (c : Dev nD) (f₀ : Buf (Elt F) ((c : Thread nD τ).loc cc0_scratch0)) :
    (bigSep Finset.univ fun s : Fin 16 => iprop(qPt (F := F) c s fullShare f₀)) ⊢ wholeQ (F := F) c := by
  iintro H
  iapply (Ring.pointsTo_blocks_join_exists (ℓ := (c : Thread nD τ).loc cc0_scratch0) setQ setQ_disjoint setQ_cover f₀)
  have hm : ∀ s ∈ (Finset.univ : Finset (Fin 16)), qPt (F := F) c s fullShare f₀ ⊢ iprop(∃ f, ((c : Thread nD τ).loc cc0_scratch0) ↦[setQ s]{fullShare} f) := fun s _ => by
    rw [qPt_eq]
    iintro H; iexists f₀; iexact H
  iapply (show (bigSep Finset.univ fun s : Fin 16 => qPt (F := F) c s fullShare f₀) ⊢ bigSep Finset.univ fun s : Fin 16 => iprop(∃ f, ((c : Thread nD τ).loc cc0_scratch0) ↦[setQ s]{fullShare} f) from bigSep_mono hm) $$ H
theorem joinO (c : Dev nD) (f₀ : Buf (Elt F) ((c : Thread nD τ).loc cc0_scratch1)) :
    (bigSep Finset.univ fun s : Fin 16 => iprop(oPt (F := F) c s fullShare f₀)) ⊢ wholeO (F := F) c := by
  iintro H
  iapply (Ring.pointsTo_blocks_join_exists (ℓ := (c : Thread nD τ).loc cc0_scratch1) setO setO_disjoint setO_cover f₀)
  have hm : ∀ s ∈ (Finset.univ : Finset (Fin 16)), oPt (F := F) c s fullShare f₀ ⊢ iprop(∃ f, ((c : Thread nD τ).loc cc0_scratch1) ↦[setO s]{fullShare} f) := fun s _ => by
    rw [oPt_eq]
    iintro H; iexists f₀; iexact H
  iapply (show (bigSep Finset.univ fun s : Fin 16 => oPt (F := F) c s fullShare f₀) ⊢ bigSep Finset.univ fun s : Fin 16 => iprop(∃ f, ((c : Thread nD τ).loc cc0_scratch1) ↦[setO s]{fullShare} f) from bigSep_mono hm) $$ H

/-- Slots by what reaches them: the own one, those from the left, those from the right. -/
theorem slot_sep (Φ : Fin 16 → sProp 𝕄) :
    bigSep Finset.univ Φ ⊢ iprop(Φ 0 ∗ (bigSep Finset.univ fun h : Fin 8 => Φ (hdst (.inl h))) ∗ bigSep Finset.univ fun h : Fin 7 => Φ (hdst (.inr h))) := by
  rw [seps16, seps8, seps7]
  show _ ⊢ iprop(Φ 0 ∗ (Φ 15 ∗ Φ 14 ∗ Φ 13 ∗ Φ 12 ∗ Φ 11 ∗ Φ 10 ∗ Φ 9 ∗ Φ 8) ∗ Φ 1 ∗ Φ 2 ∗ Φ 3 ∗ Φ 4 ∗ Φ 5 ∗ Φ 6 ∗ Φ 7)
  iintro ⟨H0, H1, H2, H3, H4, H5, H6, H7, H8, H9, H10, H11, H12, H13, H14, H15⟩
  isplitl [H0]; · iexact H0
  isplitl [H8 H9 H10 H11 H12 H13 H14 H15]
  · isplitl [H15]; · iexact H15
    isplitl [H14]; · iexact H14
    isplitl [H13]; · iexact H13
    isplitl [H12]; · iexact H12
    isplitl [H11]; · iexact H11
    isplitl [H10]; · iexact H10
    isplitl [H9]; · iexact H9
    iexact H8
  isplitl [H1]; · iexact H1
  isplitl [H2]; · iexact H2
  isplitl [H3]; · iexact H3
  isplitl [H4]; · iexact H4
  isplitl [H5]; · iexact H5
  isplitl [H6]; · iexact H6
  iexact H7

theorem frees (c : Dev nD) : iprop(wholeQ (F := F) c ∗ wholeO (F := F) c)
    ⊢ iprop(free (F := F) c 0 ∗ (bigSep Finset.univ fun h : Fin 8 => free (F := F) c (hdst (.inl h))) ∗ bigSep Finset.univ fun h : Fin 7 => free (F := F) c (hdst (.inr h))) := by
  iintro ⟨HQ, HO⟩
  iapply (slot_sep (fun s => free (F := F) c s))
  unfold free
  iapply (sep_in (F := F) (fun s : Fin 16 => iprop(∃ f, qPt (F := F) c s fullShare f)) fun s : Fin 16 => iprop(∃ f, oPt (F := F) c s fullShare f))
  isplitl [HQ]
  · iapply (cutQ c) $$ HQ
  · iapply (cutO c) $$ HO

/-! ## The own cells together -/

/-- Something at each of a hop's four cells. -/
def four (Φ : OS → sProp 𝕄) (k : Hop) : sProp 𝕄 :=
  iprop((Φ (some (k, false, false)) ∗ Φ (some (k, false, true))) ∗ Φ (some (k, true, false)) ∗ Φ (some (k, true, true)))

theorem sep_bool (Φ : Bool → sProp 𝕄) : bigSep Finset.univ Φ = iprop(Φ false ∗ Φ true) := by
  rw [bigSep_univ_at _ false, show (Finset.univ.erase false : Finset Bool) = {true} from by decide, bigSep_singleton]
theorem os_sep (Φ : OS → sProp 𝕄) :
    bigSep Finset.univ Φ = iprop(Φ none ∗ (bigSep Finset.univ fun h : Fin 8 => four Φ (.inl h)) ∗ bigSep Finset.univ fun h : Fin 7 => four Φ (.inr h)) := by
  have e (k : Hop) : bigSep Finset.univ (fun p : Bool × Bool => Φ (some (k, p))) = four Φ k := by
    rw [bigSep_univ_prod, sep_bool, sep_bool, sep_bool]; rfl
  rw [bigSep_univ_at _ none, show (Finset.univ.erase (none : OS)) = Finset.univ.map ⟨some, Option.some_injective _⟩ from by
    ext k; cases k <;> simp, bigSep_map, bigSep_univ_prod, BI.bigSep_univ_sum]
  simp only [Function.Embedding.coeFn_mk, e]
  rfl

section WithContents

variable (A : Dev nD → Vec F S512x256 .bf16) (B : Dev nD → Vec F S256x512 .bf16)
variable (κ : GSem nD τ sig → ℕ)

/-- What the launch gives a device for a hop. -/
def lnch (c : Dev nD) (k : Hop) : sProp 𝕄 := iprop(toks (F := F) c k ∗ crd c k true)
/-- That a device's receive cells for a hop are open. -/
def rchT (c : Dev nD) (k : Hop) : sProp 𝕄 := iprop(reached ER (xCell c k true false) 0 ∗ reached ER (xCell c k true true) 0)

theorem hop_open (c : Dev nD) (k : Hop) :
    iprop(lnch (F := F) c k ∗ four (fun s => iprop(atPos ER (oCell c s) 0 ∅ 0 ∗ reached ER (oCell c s) 0)) k) ⊢ iprop(ghost c k ∗ rchT c k) := by
  show iprop(lnch (F := F) c k ∗ ((atPos ER (xCell c k false false) 0 ∅ 0 ∗ reached ER (xCell c k false false) 0) ∗ atPos ER (xCell c k false true) 0 ∅ 0 ∗ reached ER (xCell c k false true) 0)
    ∗ (atPos ER (xCell c k true false) 0 ∅ 0 ∗ reached ER (xCell c k true false) 0) ∗ atPos ER (xCell c k true true) 0 ∅ 0 ∗ reached ER (xCell c k true true) 0) ⊢ _
  unfold lnch ghost rchT rch pos
  iintro ⟨⟨Ht, Hc⟩, ⟨⟨P1, R1⟩, P2, R2⟩, ⟨P3, R3⟩, P4, R4⟩
  isplitl [Ht Hc P1 R1 P2 R2 P3 P4]
  · isplitl [Ht]; · iexact Ht
    isplitl [R1 R2]; · isplitl [R1] <;> iassumption
    isplitl [P1 P2]; · isplitl [P1] <;> iassumption
    isplitl [Hc]; · iexact Hc
    isplitl [P3] <;> iassumption
  isplitl [R3] <;> iassumption

theorem hop_over (c : Dev nD) (k : Hop) : over (F := F) c k ⊢ four (fun s => atPos ER (oCell c s) 1 ∅ 0) k := by
  show _ ⊢ iprop((atPos ER (xCell c k false false) 1 ∅ 0 ∗ atPos ER (xCell c k false true) 1 ∅ 0)
    ∗ atPos ER (xCell c k true false) 1 ∅ 0 ∗ atPos ER (xCell c k true true) 1 ∅ 0)
  unfold over pos
  exact .rfl

/-- Every own cell opened. -/
theorem open_all (c : Dev nD) :
    iprop(Inv A B κ ∗ (bigSep Finset.univ fun k : OS => (openTok ER (oCell c k) : sProp 𝕄)) ∗ Pipeline.ownSems0 osem c)
      ⊢ (|={Set.univ}=> bigSep Finset.univ fun k : OS => iprop(atPos ER (oCell c k) 0 ∅ 0 ∗ reached ER (oCell c k) 0) : sProp 𝕄) := by
  unfold Pipeline.ownSems0
  iintro ⟨#HI, Hop, Hs⟩
  iapply (Rounds.cells_open ER (rd A B) Finset.univ (fun k : OS => oCell c k) (fun k => κ (oCell c k)) (fun _ _ => Set.mem_univ _))
  isplitl [Hop]
  · iapply (bigSep_with_persistent (R := Inv A B κ) (Φ := fun k : OS => openTok ER (oCell c k)) fun k _ => sep_mono (Inv_own A B κ c k) .rfl)
    isplitr; · iexact HI
    iexact Hop
  · iexact Hs

/-- Every own cell closed. -/
theorem close_all (c : Dev nD) :
    iprop(Inv A B κ ∗ bigSep Finset.univ fun k : OS => (atPos ER (oCell c k) 1 ∅ 0 : sProp 𝕄))
      ⊢ (|={Set.univ}=> Pipeline.ownSems0 osem c : sProp 𝕄) := by
  unfold Pipeline.ownSems0
  iintro ⟨#HI, Hs⟩
  iapply (Rounds.cells_close ER (rd A B) Finset.univ (fun k : OS => oCell c k) (fun k => κ (oCell c k)) (fun _ _ => Set.mem_univ _)
    (fun _ _ h => h) (fun _ => 1) (fun _ _ r hr => duties_later A B _ r hr))
  iapply (bigSep_with_persistent (R := Inv A B κ) (Φ := fun k : OS => atPos ER (oCell c k) 1 ∅ 0) fun k _ => sep_mono (Inv_own A B κ c k) .rfl)
  isplitr; · iexact HI
  iexact Hs

theorem landed_all (c : Dev nD) : (bigSep Finset.univ fun s : Fin 16 => slot A B c s fullShare) ⊢ iprop(wholeQ (F := F) c ∗ wholeO (F := F) c) := by
  unfold slot
  iintro H
  ihave H2 := (sep_out (F := F) (fun s : Fin 16 => qPt c s fullShare (qbuf A c)) fun s : Fin 16 => oPt c s fullShare (obuf B c)) $$ H
  icases H2 with ⟨H1, H2⟩
  isplitl [H1]
  · iapply (joinQ c (qbuf A c)) $$ H1
  · iapply (joinO c (obuf B c)) $$ H2

theorem all_over (c : Dev nD) : iprop(atPos ER (finCell c) 1 ∅ 0 ∗ (bigSep Finset.univ fun h : Fin 8 => over (F := F) c (.inl h)) ∗ bigSep Finset.univ fun h : Fin 7 => over (F := F) c (.inr h))
    ⊢ bigSep Finset.univ fun k : OS => (atPos ER (oCell c k) 1 ∅ 0 : sProp 𝕄) := by
  rw [os_sep]
  exact Laws.sep_mono_right (Laws.sep_mono (bigSep_mono fun h _ => hop_over c _) (bigSep_mono fun h _ => hop_over c _))

end WithContents

end Cert.KernelIdeal.K
end
end
-- ==== Proof.KI.Region.lean ====
module

public import proofs.«01_k».proof.Proof.KI.Slots
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

/-! The call as one segment of the program: its proof data, its body obligation, its entry and its exit. -/

@[expose] public section

set_option synthInstance.maxSize 4096

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
open Idealize.ShloMosaic.Pipeline (Dat BodyObligation)

variable (m : (ℓ : Loc nD τ sig) → Buf (Elt F) ℓ)

/-! ## What the call finds and leaves -/

/-- The operands, as the host code before the call leaves them. -/
def wA (d : Dev nD) : Vec F S512x256 .bf16 := V1 m d main_v20
def wB (d : Dev nD) : Vec F S256x512 .bf16 := V1 m d main_v21
def inX (d : Dev nD) : Vec F S2x256x512 .bf16 := V1 m d main_v19
def inK (d : Dev nD) : Vec F S64x2x256x64 .bf16 := V1 m d main_v16
def inV (d : Dev nD) : Vec F S64x2x256x64 .bf16 := V1 m d main_v18
/-- The result a device ends with. -/
def outD (d : Dev nD) : Vec F S2x256x512 .f32 := outV (wA m) (wB m) d (inX m d) (inK m d) (inV m d)

/-- The unscoped buffers after the call. -/
abbrev Vend (c : Dev nD) : Valuation τ sig (Elt F) := Function.update (V1 m c) main_v22 (outD m c)

local notation "IV" => Inv (wA m) (wB m)

def preTalk (c : Dev nD) : sProp 𝕄 :=
  iprop((∃ κ, IV κ) ∗ levAts L lv ∗ bars (F := F) c ∗ fins (F := F) c ∗ ghosts (F := F) c
    ∗ (bigSep Finset.univ fun h : Fin 8 => rchT (F := F) c (.inl h)) ∗ (bigSep Finset.univ fun h : Fin 7 => rchT (F := F) c (.inr h)))
def postTalk (c : Dev nD) : sProp 𝕄 := iprop((∃ κ, IV κ) ∗ atPos ER (barCell c) 1 ∅ 0)

/-- The invariant before the one point, and after it. -/
def Start (c : Dev nD) : sProp 𝕄 := iprop(preTalk m c ∗ (wholeQ (F := F) c ∗ wholeO (F := F) c) ∗ ∃ r, prngReg c r)
def Done (c : Dev nD) : sProp 𝕄 := iprop(postTalk m c ∗ Pipeline.ownSems0 osem c ∗ (wholeQ (F := F) c ∗ wholeO (F := F) c) ∗ ∃ r, prngReg c r)

def dat0 (c : Dev nD) : Dat τ (Elt F) Unit ℕ UU ℕ cfg0 c where
  A w := V1 m c (Pipeline.arrRef spec0 w)
  after w _ := match w with
    | ⟨0, _⟩ => inX m c
    | ⟨1, _⟩ => wA m c
    | ⟨2, _⟩ => wB m c
    | ⟨3, _⟩ => inK m c
    | ⟨4, _⟩ => inV m c
    | ⟨5, _⟩ => outD m c
  Φ t := if t.val = 0 then Start m c else Done m c
  q _ := fullShare
  owed t := if t.val = 0 then O₀ c else 0

def pdats : (p : Fin 1) → (c : Dev nD) → Dat τ (Elt F) Unit ℕ UU ℕ (cfgs p) c
  | 0 => dat0 m

theorem blk_read0 (c : Dev nD) : ((cfg0.win 0).blk t0_0).view.read (Elt F) (V1 m c (Pipeline.arrRef spec0 0)) = inX m c := by
  funext j
  refine congrArg (inX m c) (funext fun a => Fin.ext ?_)
  exact (Pipeline.Window.rect_emb_val_of_index_zero win0_0 t0_0 a (by revert a; decide) j)
theorem before0 (c : Dev nD) (d) : (dat0 m c).before (0 : Fin 6) t0_0 d = inX m c := by
  unfold Dat.before; rw [if_pos (fetch0_0 t0_0)]; exact blk_read0 m c
theorem blk_read1 (c : Dev nD) : ((cfg0.win 1).blk t0_0).view.read (Elt F) (V1 m c (Pipeline.arrRef spec0 1)) = wA m c := by
  funext j
  refine congrArg (wA m c) (funext fun a => Fin.ext ?_)
  exact (Pipeline.Window.rect_emb_val_of_index_zero win0_1 t0_0 a (by revert a; decide) j)
theorem before1 (c : Dev nD) (d) : (dat0 m c).before (1 : Fin 6) t0_0 d = wA m c := by
  unfold Dat.before; rw [if_pos (fetch0_1 t0_0)]; exact blk_read1 m c
theorem blk_read2 (c : Dev nD) : ((cfg0.win 2).blk t0_0).view.read (Elt F) (V1 m c (Pipeline.arrRef spec0 2)) = wB m c := by
  funext j
  refine congrArg (wB m c) (funext fun a => Fin.ext ?_)
  exact (Pipeline.Window.rect_emb_val_of_index_zero win0_2 t0_0 a (by revert a; decide) j)
theorem before2 (c : Dev nD) (d) : (dat0 m c).before (2 : Fin 6) t0_0 d = wB m c := by
  unfold Dat.before; rw [if_pos (fetch0_2 t0_0)]; exact blk_read2 m c
theorem blk_read3 (c : Dev nD) : ((cfg0.win 3).blk t0_0).view.read (Elt F) (V1 m c (Pipeline.arrRef spec0 3)) = inK m c := by
  funext j
  refine congrArg (inK m c) (funext fun a => Fin.ext ?_)
  exact (Pipeline.Window.rect_emb_val_of_index_zero win0_3 t0_0 a (by revert a; decide) j)
theorem before3 (c : Dev nD) (d) : (dat0 m c).before (3 : Fin 6) t0_0 d = inK m c := by
  unfold Dat.before; rw [if_pos (fetch0_3 t0_0)]; exact blk_read3 m c
theorem blk_read4 (c : Dev nD) : ((cfg0.win 4).blk t0_0).view.read (Elt F) (V1 m c (Pipeline.arrRef spec0 4)) = inV m c := by
  funext j
  refine congrArg (inV m c) (funext fun a => Fin.ext ?_)
  exact (Pipeline.Window.rect_emb_val_of_index_zero win0_4 t0_0 a (by revert a; decide) j)
theorem before4 (c : Dev nD) (d) : (dat0 m c).before (4 : Fin 6) t0_0 d = inV m c := by
  unfold Dat.before; rw [if_pos (fetch0_4 t0_0)]; exact blk_read4 m c
theorem after0 (c : Dev nD) : (dat0 m c).after (0 : Fin 6) t0_0 = inX m c := rfl
theorem after1 (c : Dev nD) : (dat0 m c).after (1 : Fin 6) t0_0 = wA m c := rfl
theorem after2 (c : Dev nD) : (dat0 m c).after (2 : Fin 6) t0_0 = wB m c := rfl
theorem after3 (c : Dev nD) : (dat0 m c).after (3 : Fin 6) t0_0 = inK m c := rfl
theorem after4 (c : Dev nD) : (dat0 m c).after (4 : Fin 6) t0_0 = inV m c := rfl
theorem after5 (c : Dev nD) : (dat0 m c).after (5 : Fin 6) t0_0 = outD m c := rfl

theorem Phi_start (c : Dev nD) : (dat0 m c).Φ t0_0.castSucc = Start m c := by
  show (if (t0_0.castSucc : Fin (cfg0.N + 1)).val = 0 then Start m c else Done m c) = _; exact if_pos rfl
theorem Phi_done (c : Dev nD) : (dat0 m c).Φ t0_0.succ = Done m c := by
  show (if (t0_0.succ : Fin (cfg0.N + 1)).val = 0 then Start m c else Done m c) = _; exact if_neg (by decide)
theorem Phi_last (c : Dev nD) : (dat0 m c).Φ (Fin.last cfg0.N) = Done m c := by
  show (if (Fin.last cfg0.N).val = 0 then Start m c else Done m c) = _
  rw [Fin.val_last, if_neg (by rw [show cfg0.N = 1 from N_0]; decide)]
theorem owed_first (c : Dev nD) : (dat0 m c).owed t0_0.castSucc = O₀ c := by
  show (if (t0_0.castSucc : Fin (cfg0.N + 1)).val = 0 then O₀ c else 0) = _; exact if_pos rfl
theorem owed_after (c : Dev nD) : (dat0 m c).owed t0_0.succ = 0 := by
  show (if (t0_0.succ : Fin (cfg0.N + 1)).val = 0 then O₀ c else 0) = _; exact if_neg (by decide)
theorem owed_last (c : Dev nD) : (dat0 m c).owed (Fin.last cfg0.N) = 0 := by
  show (if (Fin.last cfg0.N).val = 0 then O₀ c else 0) = _
  rw [Fin.val_last, if_neg (by rw [show cfg0.N = 1 from N_0]; decide)]

theorem owes_in (c : Dev nD) (t : Fin (cfg0.N + 1)) (O : CellTallies nD τ sig Unit) (h : (dat0 m c).owed t = O) (W : Waits sig Unit) :
    owes (c : Thread nD τ) O W ⊢ (dat0 m c).owesAt () t := by
  unfold Dat.owesAt Pipeline.owesWithin Dat.bound; rw [h]
  iintro HO; iexists W; isplitr; · ipureintro; exact fun _ _ => Or.inl trivial
  iexact HO
theorem owes_out (c : Dev nD) (t : Fin (cfg0.N + 1)) (O : CellTallies nD τ sig Unit) (h : (dat0 m c).owed t = O) :
    (dat0 m c).owesAt () t ⊢ iprop(∃ W, owes (c : Thread nD τ) O W) := by
  unfold Dat.owesAt Pipeline.owesWithin; rw [h]
  iintro ⟨%W, -, HO⟩; iexists W; iexact HO

/-- The slots are what the two buffers are cut into, with the receive cells known open. -/
theorem slots_of (c : Dev nD) :
    iprop((wholeQ (F := F) c ∗ wholeO (F := F) c) ∗ (bigSep Finset.univ fun h : Fin 8 => rchT (F := F) c (.inl h)) ∗ (bigSep Finset.univ fun h : Fin 7 => rchT (F := F) c (.inr h)))
      ⊢ slots (F := F) c := by
  iintro ⟨Hw, HR, HL⟩
  ihave Hf := (frees c) $$ Hw
  icases Hf with ⟨H0, H8, H7⟩
  unfold slots
  isplitl [H0]; · iexact H0
  isplitl [HR H8]
  · iapply (sep_in (F := F) (fun h : Fin 8 => free (F := F) c (hdst (.inl h))) fun h : Fin 8 => rchT (F := F) c (.inl h))
    isplitl [H8] <;> iassumption
  · iapply (sep_in (F := F) (fun h : Fin 7 => free (F := F) c (hdst (.inr h))) fun h : Fin 7 => rchT (F := F) c (.inr h))
    isplitl [H7] <;> iassumption

/-- From what the run leaves, the invariant after the point. -/
theorem done_of (κ : GSem nD τ sig → ℕ) (c : Dev nD) :
    iprop(IV κ ∗ ended (wA m) (wB m) c ∗ atPos ER (barCell c) 1 ∅ 0 ∗ atPos ER (finCell c) 1 ∅ 0 ∗ ∃ r, prngReg c r)
      ⊢ (|={Set.univ}=> Done m c : sProp 𝕄) := by
  unfold ended Done postTalk
  iintro ⟨#HI, ⟨Hs, H8, H7⟩, HpB, HpF, Hr⟩
  imod (close_all (wA m) (wB m) κ c) $$ [HpF H8 H7] with Hos
  · isplitr; · iexact HI
    iapply (all_over c)
    isplitl [HpF]; · iexact HpF
    isplitl [H8] <;> iassumption
  imodintro
  isplitl [HpB]
  · isplitr; · iexists κ; iexact HI
    iexact HpB
  isplitl [Hos]; · iexact Hos
  isplitl [Hs]; · iapply (landed_all (wA m) (wB m) c) $$ Hs
  iexact Hr

theorem body_row : (defs₀ (F := F)) .tc cfg0.body = fun a =>
    cc0__body (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scoped0 := rfl
theorem body_at : (defs₀ (F := F)) .tc cfg0.body (t0_0, cfg0.slots t0_0) = bodyP := (congrFun body_row _).trans rfl

theorem kv_stg (c : Dev nD) (g3 g4 : Vec F S64x2x256x64 .bf16) :
    (kvPt c g3 g4 : sProp 𝕄) = iprop(stgPt c cc0_stg3_0 g3 ∗ stgPt c cc0_stg4_0 g4) := rfl
theorem stg_owns (c : Dev nD) (b : Ref sig .tc) (f : b.ty.Contents (Elt F)) :
    (owns (c : Thread nD τ) (Memref.whole b) fullShare f : sProp 𝕄) = stgPt c b f := owns_whole _ _ _ _

set_option backward.isDefEq.respectTransparency.types false in
set_option maxRecDepth 4000 in
theorem body_obligation (c : Dev nD) : BodyObligation (dat0 (F := F) m c) (defs₀ (F := F)) 𝒱₀ () Set.univ := fun t => by
  obtain rfl := fin_N0 t
  rw [bigSep_W0, bigSep_W0]
  dsimp only
  simp only [before0, before1, before2, before3, before4, after0, after1, after2, after3, after4, after5]
  rw [Phi_start, Phi_done]
  rw [body_at, show stage0_0 0 = Memref.whole cc0_stg0_0 from rfl, show stage0_1 0 = Memref.whole cc0_stg1_0 from rfl, show stage0_2 0 = Memref.whole cc0_stg2_0 from rfl,
    show stage0_3 0 = Memref.whole cc0_stg3_0 from rfl, show stage0_4 0 = Memref.whole cc0_stg4_0 from rfl, show stage0_5 0 = Memref.whole cc0_stg5_0 from rfl]
  simp only [stg_owns]
  refine BIBase.Entails.trans ?_ (wp_fupd _ _ _ _ _)
  unfold Start preTalk
  iintro ⟨⟨⟨⟨%κ, #HI⟩, #Hlev, Hb, Hf, Hg, HrR, HrL⟩, Hw, Hp⟩, HO, ⟨%d0, H0⟩, ⟨%d1, H1⟩, ⟨%d2, H2⟩, ⟨%d3, H3⟩, ⟨%d4, H4⟩, ⟨%d5, H5⟩⟩
  ihave HO' := (owes_out m c _ (O₀ c) (owed_first m c)) $$ HO
  icases HO' with ⟨%W, HO⟩
  iapply (body_step (wA m) (wB m) κ c (inX m c) (inK m c) (inV m c) _ W _)
  isplitr; · iexact HI
  isplitr; · iexact Hlev
  isplitl [Hb]; · iexact Hb
  isplitl [Hf]; · iexact Hf
  isplitl [Hg]; · iexact Hg
  isplitl [Hw HrR HrL]
  · iapply (slots_of c)
    isplitl [Hw]; · iexact Hw
    isplitl [HrR] <;> iassumption
  isplitl [H0]; · iexact H0
  isplitl [H1]; · iexact H1
  isplitl [H2]; · iexact H2
  isplitl [H3 H4]
  · rw [kv_stg]
    isplitl [H3]
    · iexact H3
    · iexact H4
  isplitl [H5]; · iexact H5
  isplitl [HO]; · iexact HO
  iintro ⟨%W', He, HpB, HpF, H0, H1, H2, Hkv, H5, HO⟩
  imod (done_of m κ c) $$ [He HpB HpF Hp] with HD
  · isplitr; · iexact HI
    isplitl [He]; · iexact He
    isplitl [HpB]; · iexact HpB
    isplitl [HpF]; · iexact HpF
    iexact Hp
  imodintro
  isplitl [HD]; · iexact HD
  isplitl [HO]; · iapply (owes_in m c t0_0.succ 0 (owed_after m c) W'); iexact HO
  ihave Hkv := (Entails.of_eq (kv_stg c (inK m c) (inV m c))) $$ Hkv
  icases Hkv with ⟨H3, H4⟩
  isplitl [H0]; · iexact H0
  isplitl [H1]; · iexact H1
  isplitl [H2]; · iexact H2
  isplitl [H3]; · iexact H3
  isplitl [H4]; · iexact H4
  iexact H5

/-! ## The segment -/

/-- What a device holds for the call before it. -/
def Tk (c : Dev nD) : sProp 𝕄 :=
  iprop((∃ κ, IV κ) ∗ bars (F := F) c
    ∗ (dutyTok ER (finCell (prv c)) 0 true ∗ dutyTok ER (finCell (nxt c)) 0 false ∗ cred (tallyAt (finCell c) () 2))
    ∗ ((bigSep Finset.univ fun h : Fin 8 => lnch (F := F) c (.inl h)) ∗ (bigSep Finset.univ fun h : Fin 7 => lnch (F := F) c (.inr h)))
    ∗ bigSep Finset.univ fun k : OS => openTok ER (oCell c k))

theorem hopen0 (c : Dev nD) : iprop(Tk m c ∗ Pipeline.ownSems0 osem c ∗ levAts L lv) ⊢ (|={Set.univ}=> preTalk m c : sProp 𝕄) := by
  unfold Tk preTalk
  iintro ⟨⟨⟨%κ, #HI⟩, Hb, ⟨HuP, HuN, HcF⟩, ⟨Hl8, Hl7⟩, Hop⟩, Hs, #Hlev⟩
  imod (open_all (wA m) (wB m) κ c) $$ [Hop Hs] with Hall
  · isplitr; · iexact HI
    isplitl [Hop] <;> iassumption
  ihave Hall2 := (Entails.of_eq (os_sep (F := F) fun k => iprop(atPos ER (oCell c k) 0 ∅ 0 ∗ reached ER (oCell c k) 0))) $$ Hall
  icases Hall2 with ⟨⟨HpF, HrF⟩, H8, H7⟩
  have e8 : iprop((bigSep Finset.univ fun h : Fin 8 => lnch (F := F) c (.inl h)) ∗ bigSep Finset.univ fun h : Fin 8 => four (fun s => iprop(atPos ER (oCell c s) 0 ∅ 0 ∗ reached ER (oCell c s) 0)) (.inl h))
      ⊢ iprop((bigSep Finset.univ fun h : Fin 8 => ghost (F := F) c (.inl h)) ∗ bigSep Finset.univ fun h : Fin 8 => rchT (F := F) c (.inl h)) := by
    rw [← bigSep_sep', ← bigSep_sep']
    exact bigSep_mono fun h _ => hop_open c (.inl h)
  have e7 : iprop((bigSep Finset.univ fun h : Fin 7 => lnch (F := F) c (.inr h)) ∗ bigSep Finset.univ fun h : Fin 7 => four (fun s => iprop(atPos ER (oCell c s) 0 ∅ 0 ∗ reached ER (oCell c s) 0)) (.inr h))
      ⊢ iprop((bigSep Finset.univ fun h : Fin 7 => ghost (F := F) c (.inr h)) ∗ bigSep Finset.univ fun h : Fin 7 => rchT (F := F) c (.inr h)) := by
    rw [← bigSep_sep', ← bigSep_sep']
    exact bigSep_mono fun h _ => hop_open c (.inr h)
  ihave G8 := e8 $$ [Hl8 H8]
  · isplitl [Hl8] <;> iassumption
  ihave G7 := e7 $$ [Hl7 H7]
  · isplitl [Hl7] <;> iassumption
  icases G8 with ⟨G8, R8⟩
  icases G7 with ⟨G7, R7⟩
  imodintro
  isplitr; · iexists κ; iexact HI
  isplitr; · iexact Hlev
  isplitl [Hb]; · iexact Hb
  isplitl [HuP HuN HcF HpF HrF]
  · unfold fins
    isplitl [HuP]; · iexact HuP
    isplitl [HuN]; · iexact HuN
    isplitl [HrF]; · iexact HrF
    isplitl [HcF]; · iexact HcF
    iexact HpF
  isplitl [G8 G7]
  · unfold ghosts
    isplitl [G8] <;> iassumption
  isplitl [R8] <;> iassumption

theorem held_none (c : Dev nD) (W : Valuation τ sig (Elt F)) : (StableHlo.held (c.tc : Thread nD τ) ∅ W : sProp 𝕄) = BI.emp := by
  unfold StableHlo.held; exact BI.bigSep_empty

theorem hin0 (c : Dev nD) : iprop(Pipeline.scopedRest (Pipeline.pin (pcfgs (F := F)) adm 0).spec c ∗ (∃ r, prngReg c r) ∗ StableHlo.held (c.tc : Thread nD τ) ∅ (V1 m c) ∗ preTalk m c)
    ⊢ (pdats m 0 c).Φ 0 := by
  rw [show (pdats m 0 c).Φ 0 = Start m c from Phi_start m c, show (Pipeline.pin (pcfgs (F := F)) adm 0).spec = spec0 from rfl, scopedRest0_eq]
  unfold Start
  iintro ⟨Hw, Hp, -, HX⟩
  isplitl [HX]; · iexact HX
  isplitl [Hw]; · iexact Hw
  iexact Hp

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vend m c) ∗ Pipeline.ownSems0 osem c ∗ postTalk m c) := by
  rw [show (pdats m 0 c).Φ (Fin.last _) = Done m c from Phi_last m c, show (Pipeline.pin (pcfgs (F := F)) adm 0).spec = spec0 from rfl, scopedRest0_eq, held_none]
  unfold Done
  iintro ⟨HX, Hs, Hw, Hp⟩
  isplitl [Hw]; · iexact Hw
  isplitl [Hp]; · iexact Hp
  isplitr; · iempintro
  isplitl [Hs] <;> iassumption

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · have := above_O₀ c g i h
    exact ⟨by unfold L; rw [if_pos this.1]; exact Finset.mem_singleton_self _, this.2⟩
  · exact absurd h (Nat.lt_irrefl 0)

theorem share_full (c : Dev nD) (w : Fin 6) : (dat0 m c).share w = fullShare := by
  unfold Dat.share; split <;> rfl
theorem dec_stage : ∀ (w : Fin 6) (s : Fin (spec0 w).nbuf), dec (.dma ((spec0 w).sem s)) = none := by decide

theorem arr_first (c : Dev nD) (w : Fin 6) : (dat0 m c).arrAt w 0 = V1 m c (Proc.devRef .tc (Pipeline.arrRef spec0 w)) := rfl
theorem Vend_of (c : Dev nD) (r : Ref sig .tc) (h : r ≠ main_v22) : Vend m c r = V1 m c r :=
  Function.update_of_ne (StableHlo.devRef_ne_of_ne h : (Proc.devRef .tc r : DevRef τ sig) ≠ Proc.devRef .tc main_v22) _ _
theorem Vend_out (c : Dev nD) : Vend m c main_v22 = outD m c := Function.update_self _ _ _

theorem arr_last (c : Dev nD) (w : Fin 6) : (dat0 m c).arrAt w cfg0.N = Vend m c (Proc.devRef .tc (Pipeline.arrRef spec0 w)) := by
  match w with
  | 0 => exact ((dat0 m c).arrAt_in (0 : Fin 6) rfl _).trans (Vend_of m c main_v19 (by decide)).symm
  | 1 => exact ((dat0 m c).arrAt_in (1 : Fin 6) rfl _).trans (Vend_of m c main_v20 (by decide)).symm
  | 2 => exact ((dat0 m c).arrAt_in (2 : Fin 6) rfl _).trans (Vend_of m c main_v21 (by decide)).symm
  | 3 => exact ((dat0 m c).arrAt_in (3 : Fin 6) rfl _).trans (Vend_of m c main_v16 (by decide)).symm
  | 4 => exact ((dat0 m c).arrAt_in (4 : Fin 6) rfl _).trans (Vend_of m c main_v18 (by decide)).symm
  | 5 =>
    refine ((dat0 m c).arrAt_eq_of_after_last (5 : Fin 6) t0_0 (by decide +kernel) (outD m c) fun j => rfl).trans (Vend_out m c).symm

theorem osem_scoped : ∀ k : OS, (osem k).isScoped .tc = true
  | none => by decide
  | some (.inl h, r, o) => by revert h r o; decide
  | some (.inr h, r, o) => by revert h r o; decide
theorem ownFacts : Pipeline.OwnSemFacts spec0 osem :=
  ⟨osem_scoped, osem_inj, fun k w s h => Option.some_ne_none k ((dec_osem k).symm.trans ((congrArg dec h).trans (dec_stage w s)))⟩

theorem rest_same (c : Dev nD) : ∀ b ∈ (Pipeline.ucRefs τ sig \ Pipeline.arrRefs spec0) \ ∅, Vend m c b = V1 m c b := fun b hb => by
  rw [Finset.sdiff_empty, Finset.mem_sdiff] at hb
  refine Function.update_of_ne (fun e => hb.2 ?_) _ _
  subst e
  unfold Pipeline.arrRefs
  exact Finset.mem_map_of_mem _ (Finset.mem_image_of_mem _ (Finset.mem_univ (5 : Fin 6)))

theorem stage_lv (c : Dev nD) (w : Fin 6) (s : Fin (spec0 w).nbuf) : lv ((c : Thread nD τ), .dma ((spec0 w).sem s)) () ≤ 0 := by
  unfold lv
  dsimp only
  rw [if_neg (fun h => by cases h), dec_stage]

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ (Pipeline.ucRefs τ sig \ Pipeline.arrRefs spec0) (Finset.empty_subset _) launch0.toP rfl (fun c => (body_obligation m c).loose)
    (fun _ => 0) O₀ (fun c => (owed_first m c).trans (zero_add _).symm) (fun c => owed_last m c) (fun _ => rfl) (fun c w => share_full m c w)
    (V1 m) (Vend m) (rest_same m)
    (Tk m) (postTalk m) (preTalk m) (postTalk m) (hopen0 m) (hin0 m) (hout0 m)
    (fun c => by iintro H; imodintro; iexact H)
    (fun _ => 0)
    ⟨fun c w s => by rw [L_tc]; exact Finset.mem_singleton_self _, fun c w s => stage_lv c w s, fun c t g i h => cutD m c t g i h⟩
    (fun _ => iprop(emp))
    (fun c w => arr_first m c w) (fun c w => arr_last m c w)

end Cert.KernelIdeal.K
end
end
-- ==== Proof.KI.Launch.lean ====
module

public import proofs.«01_k».proof.Proof.KI.Region
/-! The launch: the cells and the duties, handed round the ring; the credit each device starts with, which is what its
neighbours owe it; and the run of the whole program from any memory with every counter at zero. -/

@[expose] public section

set_option synthInstance.maxSize 4096

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ
open Idealize.ShloMosaic.Pipeline (Dat BodyObligation)

variable (m : (ℓ : Loc nD τ sig) → Buf (Elt F) ℓ) (ρ : Dev nD → PrngReg)

local notation "IV" => Inv (wA m) (wB m)

/-! ## The cells and the duties -/

def barEmb : Dev nD ↪ GSem nD τ sig := ⟨fun c => barCell c, fun _ _ h => congrArg (fun g : GSem nD τ sig => g.1.1) h⟩
def ownEmb : Dev nD × OS ↪ GSem nD τ sig :=
  ⟨fun p => oCell p.1 p.2, fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The duties of a device's cells: two of the barrier's, one of each of its own cells, and the last barrier's other. -/
abbrev TK := Bool ⊕ Option OS
def tsem : TK → SemLoc sig
  | .inl _ => .reg barS.sem
  | .inr none => osem none
  | .inr (some k) => osem k
def tbit : TK → Bool
  | .inl b => b
  | .inr none => true
  | .inr (some _) => false
theorem tk_inj : Function.Injective fun t : TK => (tsem t, tbit t) := by
  rintro (b | _ | k) (b' | _ | k') h <;> have h1 := congrArg Prod.fst h <;> have h2 := congrArg Prod.snd h <;>
    simp only [tsem, tbit] at h1 h2
  · rw [h2]
  · exact absurd h1.symm (osem_ne_bar _)
  · exact absurd h1.symm (osem_ne_bar _)
  · exact absurd h1 (osem_ne_bar _)
  · rfl
  · exact absurd h2 (by decide)
  · exact absurd h1 (osem_ne_bar _)
  · exact absurd h2 (by decide)
  · rw [osem_inj h1]

def duties : Finset (GSem nD τ sig × ℕ × Bool) :=
  Finset.univ.map ⟨fun p : Dev nD × TK => (((p.1 : Thread nD τ), tsem p.2), 0, tbit p.2), fun _ _ h =>
    Prod.ext (congrArg (fun t : GSem nD τ sig × ℕ × Bool => t.1.1.1) h)
      (tk_inj (Prod.ext (congrArg (fun t : GSem nD τ sig × ℕ × Bool => t.1.2) h) (congrArg (fun t : GSem nD τ sig × ℕ × Bool => t.2.2) h)))⟩

def u₀ : UU :=
  (initOf (Pipeline.cells (Pipeline.pin (pcfgs (F := F)) adm) cellOf_inj) (Pipeline.launchToks (Pipeline.pin (pcfgs (F := F)) adm) cellOf_inj),
    launchOf barCells ownCells duties)

/-- A resource kept at one device. -/
def atDev (c₀ : Dev nD) (X : sProp 𝕄) (c : Dev nD) : sProp 𝕄 := if c = c₀ then X else iprop(emp)
theorem sep_atDev (c₀ : Dev nD) (X : sProp 𝕄) : bigSep Finset.univ (atDev c₀ X) = X := by
  rw [bigSep_univ_at _ c₀, bigSep_congr (s := Finset.univ.erase c₀) (Ψ := fun _ => (BI.emp : sProp 𝕄))
      fun c hc => by unfold atDev; rw [if_neg (Finset.ne_of_mem_erase hc)]; rfl, BI.bigSep_emp_const]
  unfold atDev; rw [if_pos rfl]
  exact BI.equiv_iff.mp sep_emp
def G : Dev nD → sProp 𝕄 := atDev 0 (BI.own (ER (launchOf barCells ownCells duties)))

/-! ## The duties, dealt -/

/-- The duty tokens of a device's own cells. -/
def dty (c : Dev nD) (k : OS) : sProp 𝕄 := dutyTok ER (oCell c k) 0 false
def sendT (c : Dev nD) (k : Hop) : sProp 𝕄 := iprop(dty (F := F) c (some (k, false, false)) ∗ dty c (some (k, false, true)))
def recvT (c : Dev nD) (k : Hop) : sProp 𝕄 := iprop(dty (F := F) c (some (k, true, false)) ∗ dty c (some (k, true, true)))
/-- What stays, what goes one way and what goes the other. -/
def stays (c : Dev nD) : sProp 𝕄 :=
  iprop((bigSep Finset.univ fun h : Fin 8 => sendT (F := F) c (.inl h)) ∗ bigSep Finset.univ fun h : Fin 7 => sendT (F := F) c (.inr h))
def goesL (c : Dev nD) : sProp 𝕄 :=
  iprop(dutyTok ER (barCell c) 0 false ∗ dutyTok ER (finCell c) 0 false ∗ bigSep Finset.univ fun h : Fin 8 => recvT (F := F) c (.inl h))
def goesR (c : Dev nD) : sProp 𝕄 :=
  iprop(dutyTok ER (barCell c) 0 true ∗ dutyTok ER (finCell c) 0 true ∗ bigSep Finset.univ fun h : Fin 7 => recvT (F := F) c (.inr h))

theorem duties_dev (c : Dev nD) :
    bigSep Finset.univ (fun t : TK => (dutyTok ER ((c : Thread nD τ), tsem t) 0 (tbit t) : sProp 𝕄))
      ⊢ iprop(stays c ∗ goesL c ∗ goesR c) := by
  have e : bigSep Finset.univ (fun t : TK => (dutyTok ER ((c : Thread nD τ), tsem t) 0 (tbit t) : sProp 𝕄))
      = iprop((dutyTok ER (barCell c) 0 false ∗ dutyTok ER (barCell c) 0 true)
        ∗ dutyTok ER (finCell c) 0 true ∗ dty c none
        ∗ ((bigSep Finset.univ fun h : Fin 8 => sendT (F := F) c (.inl h)) ∗ bigSep Finset.univ fun h : Fin 8 => recvT (F := F) c (.inl h))
        ∗ ((bigSep Finset.univ fun h : Fin 7 => sendT (F := F) c (.inr h)) ∗ bigSep Finset.univ fun h : Fin 7 => recvT (F := F) c (.inr h))) := by
    rw [BI.bigSep_univ_sum, sep_bool, bigSep_univ_at _ (none : Option OS),
      show (Finset.univ.erase (none : Option OS)) = Finset.univ.map ⟨some, Option.some_injective _⟩ from by ext k; cases k <;> simp,
      bigSep_map, ← bigSep_sep', ← bigSep_sep']
    exact congrArg (fun X : sProp 𝕄 => iprop((dutyTok ER (barCell c) 0 false ∗ dutyTok ER (barCell c) 0 true) ∗ dutyTok ER (finCell c) 0 true ∗ X))
      (os_sep (dty (F := F) c))
  rw [e]
  unfold stays goesL goesR
  rw [show (dty (F := F) c none) = dutyTok ER (finCell c) 0 false from rfl]
  iintro ⟨⟨B0, B1⟩, F1, F0, ⟨S8, R8⟩, S7, R7⟩
  isplitl [S8 S7]; · isplitl [S8] <;> iassumption
  isplitl [B0 F0 R8]
  · isplitl [B0]; · iexact B0
    isplitl [F0]; · iexact F0
    iexact R8
  isplitl [B1]; · iexact B1
  isplitl [F1]; · iexact F1
  iexact R7

theorem duties_dealt :
    bigSep duties (fun x => (dutyTok ER x.1 x.2.1 x.2.2 : sProp 𝕄))
      ⊢ bigSep Finset.univ fun c : Dev nD => iprop(stays (F := F) c ∗ goesL (nxt c) ∗ goesR (prv c)) := by
  unfold duties; rw [bigSep_map, bigSep_univ_prod]
  refine BIBase.Entails.trans (bigSep_mono fun c _ => duties_dev c) ?_
  rw [bigSep_sep', bigSep_sep', bigSep_sep', bigSep_sep', bigSep_univ_equiv ring (fun c : Dev nD => goesL (F := F) c),
    bigSep_univ_equiv ring.symm (fun c : Dev nD => goesR (F := F) c)]
  exact BI.Entails.refl _

/-! ## What a device starts with -/

/-- What every device may consult. -/
def records (κ : GSem nD τ sig → ℕ) : sProp 𝕄 := iprop(IV κ ∗ bigSep Finset.univ fun c : Dev nD => reached ER (barCell c) 0)
instance records_persistent (κ : GSem nD τ sig → ℕ) : BI.Persistent (records m κ) := by unfold records; infer_instance
theorem reached_dev (c : Dev nD) : (bigSep Finset.univ fun c : Dev nD => (reached ER (barCell c) 0 : sProp 𝕄)) ⊢ reached ER (barCell c) 0 :=
  bigSep_elim (Φ := fun c : Dev nD => (reached ER (barCell c) 0 : sProp 𝕄)) (Finset.mem_univ c)

def credits (c : Dev nD) : sProp 𝕄 :=
  iprop(cred (tallyAt (barCell c) () 2) ∗ cred (tallyAt (finCell c) () 2)
    ∗ (bigSep Finset.univ fun h : Fin 8 => crd (F := F) c (.inl h) true) ∗ bigSep Finset.univ fun h : Fin 7 => crd (F := F) c (.inr h) true)

/-- A device's own holdings of the protocol. -/
def dealt (c : Dev nD) : sProp 𝕄 :=
  iprop(atPos ER (barCell c) 0 ∅ 0 ∗ (bigSep Finset.univ fun k : OS => openTok ER (oCell c k)) ∗ stays (F := F) c ∗ goesL (nxt c) ∗ goesR (prv c))

theorem lnch_intro (c : Dev nD) (k : Hop) : iprop(sendT (F := F) c k ∗ recvT (tgt c k) k ∗ crd c k true) ⊢ lnch c k := by
  unfold sendT recvT lnch toks dty
  iintro ⟨⟨S0, S1⟩, ⟨R0, R1⟩, C⟩
  isplitr [C]
  · isplitl [S0]; · iexact S0
    isplitl [S1]; · iexact S1
    isplitl [R0]; · iexact R0
    iexact R1
  iexact C
theorem lnch_sep {I : Type} [Fintype I] [DecidableEq I] (f : I → Hop) (c : Dev nD) :
    iprop((bigSep Finset.univ fun h : I => sendT (F := F) c (f h)) ∗ (bigSep Finset.univ fun h : I => recvT (F := F) (tgt c (f h)) (f h))
      ∗ bigSep Finset.univ fun h : I => crd (F := F) c (f h) true) ⊢ bigSep Finset.univ fun h : I => lnch (F := F) c (f h) := by
  rw [← bigSep_sep', ← bigSep_sep']
  exact bigSep_mono fun h _ => lnch_intro c (f h)

theorem Tk_intro (κ : GSem nD τ sig → ℕ) (c : Dev nD) : iprop(records m κ ∗ dealt c ∗ credits c) ⊢ Tk m c := by
  unfold records dealt credits stays goesL goesR Tk bars
  iintro ⟨⟨#HI, #HR⟩, ⟨Hat, Hop, ⟨S8, S7⟩, ⟨B0, F0, R8⟩, B1, F1, R7⟩, C2, CF, C8, C7⟩
  isplitr; · iexists κ; iexact HI
  isplitl [B1 B0 C2 Hat]
  · isplitl [B1]; · iexact B1
    isplitr; · iapply (reached_dev (F := F) (prv c)); iexact HR
    isplitl [B0]; · iexact B0
    isplitr; · iapply (reached_dev (F := F) (nxt c)); iexact HR
    isplitl [C2] <;> iassumption
  isplitl [F1 F0 CF]
  · isplitl [F1]; · iexact F1
    isplitl [F0] <;> iassumption
  isplitr [Hop]
  · isplitl [S8 R8 C8]
    · iapply (lnch_sep (F := F) (fun h : Fin 8 => (.inl h : Hop)) c)
      isplitl [S8]; · iexact S8
      isplitl [R8]; · iexact R8
      iexact C8
    · iapply (lnch_sep (F := F) (fun h : Fin 7 => (.inr h : Hop)) c)
      isplitl [S7]; · iexact S7
      isplitl [R7]; · iexact R7
      iexact C7
  iexact Hop

/-! ## The credit at launch -/

theorem xCell_eq_iff {c d : Dev nD} {k k' : Hop} {r r' o o' : Bool} :
    xCell c k r o = xCell d k' r' o' ↔ c = d ∧ k = k' ∧ r = r' ∧ o = o' := by
  constructor
  · intro h
    have h1 : c = d := congrArg (fun g : GSem nD τ sig => g.1.1) h
    have h2 : some (k, r, o) = some (k', r', o') := osem_inj (congrArg Prod.snd h)
    simp only [Option.some.injEq, Prod.mk.injEq] at h2
    exact ⟨h1, h2⟩
  · rintro ⟨rfl, rfl, rfl, rfl⟩; rfl
theorem tgt_eq_iff {c d : Dev nD} {k : Hop} : c = tgt d k ↔ d = frm c k :=
  ⟨fun h => by rw [h, frm_tgt], fun h => by rw [h, tgt_frm]⟩

/-- How often a hop is in a list. -/
def cnt (k : Hop) : List Hop → ℕ
  | [] => 0
  | k' :: l => cnt k l + if k' = k then 1 else 0

theorem hopsO_x (d c : Dev nD) (k : Hop) (o : Bool) (O : CellTallies nD τ sig Unit) : ∀ l : List Hop,
    hopsO d l O (xCell c k true o) () = O (xCell c k true o) () + cnt k l * (if d = frm c k then NN o else 0)
  | [] => by show _ = _ + 0 * _; rw [Nat.zero_mul]; rfl
  | k' :: l => by
    show hopO d k' (hopsO d l O) _ () = _
    unfold hopO
    rw [Pi.add_apply, Finsupp.add_apply, Pi.add_apply, Finsupp.add_apply, hopsO_x d c k o O l, tallyAt_apply, tallyAt_apply, cnt]
    simp only [xCell_eq_iff, true_and, and_true, tgt_eq_iff]
    by_cases hk : k' = k
    · subst hk
      by_cases hd : d = frm c k'
      · cases o <;> simp [hd, Nat.add_mul, Nat.add_assoc]
      · simp [hd, tgt_eq_iff]
    · have hk' : ¬ k = k' := fun h => hk h.symm
      simp [hk, hk']
theorem hopsO_other (d : Dev nD) (g : GSem nD τ sig) (h : ∀ c k o, g ≠ xCell c k true o) (O : CellTallies nD τ sig Unit) : ∀ l : List Hop,
    hopsO d l O g () = O g ()
  | [] => rfl
  | k :: l => by
    show hopO d k (hopsO d l O) g () = _
    unfold hopO
    rw [Pi.add_apply, Finsupp.add_apply, Pi.add_apply, Finsupp.add_apply, hopsO_other d g h O l, tallyAt_ne_cell (h _ _ _), tallyAt_ne_cell (h _ _ _)]
    rfl

theorem order_count : ∀ k : Hop, cnt k order = 1
  | .inl h => by revert h; decide
  | .inr h => by revert h; decide
theorem bar_ne_own (c d : Dev nD) (k : OS) : barCell c ≠ oCell d k := fun h => osem_ne_bar k (congrArg Prod.snd h).symm
theorem fin_ne_bar (c d : Dev nD) : finCell c ≠ barCell d := (bar_ne_own d c none).symm
theorem x_ne_bar (c d : Dev nD) (k : Hop) (r o : Bool) : xCell c k r o ≠ barCell d := (bar_ne_own d c (some (k, r, o))).symm
theorem fin_ne_x (c d : Dev nD) (k : Hop) (r o : Bool) : finCell c ≠ xCell d k r o := fun h => by
  have := osem_inj (a₁ := none) (a₂ := some (k, r, o)) (congrArg Prod.snd h)
  cases this

theorem owed_x (d c : Dev nD) (k : Hop) (o : Bool) : O₀ d (xCell c k true o) () = if d = frm c k then NN o else 0 := by
  unfold O₀ O₁ O₂
  rw [Pi.add_apply, Finsupp.add_apply, Pi.add_apply, Finsupp.add_apply, hopsO_x, order_count, Nat.one_mul]
  unfold finO finO₁
  rw [Pi.add_apply, Finsupp.add_apply, Pi.add_apply, Finsupp.add_apply, tallyAt_ne_cell (fin_ne_x _ _ _ _ _).symm, tallyAt_ne_cell (fin_ne_x _ _ _ _ _).symm,
    tallyAt_ne_cell (x_ne_bar _ _ _ _ _), tallyAt_ne_cell (x_ne_bar _ _ _ _ _)]
  simp
theorem nxt_iff {c d : Dev nD} : c = nxt d ↔ d = prv c := ⟨fun h => by rw [h, prv_nxt], fun h => by rw [h, nxt_prv]⟩
theorem prv_iff {c d : Dev nD} : c = prv d ↔ d = nxt c := ⟨fun h => by rw [h, nxt_prv], fun h => by rw [h, prv_nxt]⟩
theorem barCell_eq {c d : Dev nD} : barCell c = barCell d ↔ c = d := ⟨fun h => congrArg (fun g : GSem nD τ sig => g.1.1) h, fun h => by rw [h]⟩
theorem finCell_eq {c d : Dev nD} : finCell c = finCell d ↔ c = d := ⟨fun h => congrArg (fun g : GSem nD τ sig => g.1.1) h, fun h => by rw [h]⟩
theorem owed_bar (d c : Dev nD) : O₀ d (barCell c) () = (if d = prv c then 1 else 0) + (if d = nxt c then 1 else 0) := by
  unfold O₀ O₁ O₂
  rw [Pi.add_apply, Finsupp.add_apply, Pi.add_apply, Finsupp.add_apply, hopsO_other _ _ (fun e k o => bar_ne_own c e (some (k, true, o)))]
  unfold finO finO₁
  rw [Pi.add_apply, Finsupp.add_apply, Pi.add_apply, Finsupp.add_apply, tallyAt_ne_cell (fin_ne_bar _ _).symm, tallyAt_ne_cell (fin_ne_bar _ _).symm,
    tallyAt_apply, tallyAt_apply]
  simp only [barCell_eq, and_true, show (c = nxt d) = (d = prv c) from propext nxt_iff, show (c = prv d) = (d = nxt c) from propext prv_iff]
  simp
theorem owed_fin (d c : Dev nD) : O₀ d (finCell c) () = (if d = prv c then 1 else 0) + (if d = nxt c then 1 else 0) := by
  unfold O₀ O₁ O₂
  rw [Pi.add_apply, Finsupp.add_apply, Pi.add_apply, Finsupp.add_apply, hopsO_other _ _ (fun e k o => fin_ne_x c e k true o)]
  unfold finO finO₁
  rw [Pi.add_apply, Finsupp.add_apply, Pi.add_apply, Finsupp.add_apply, tallyAt_ne_cell (fin_ne_bar _ _), tallyAt_ne_cell (fin_ne_bar _ _),
    tallyAt_apply, tallyAt_apply]
  simp only [finCell_eq, and_true, show (c = nxt d) = (d = prv c) from propext nxt_iff, show (c = prv d) = (d = nxt c) from propext prv_iff]
  simp

theorem sum_one (a : Dev nD) (n : ℕ) : (∑ d : Dev nD, if d = a then n else 0) = n := by
  rw [Finset.sum_ite_eq' Finset.univ a fun _ => n, if_pos (Finset.mem_univ _)]

theorem launched (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launched_bar (c : Dev nD) : tallyOn (barCell c) (launchCredit (Pipeline.owing O₀) 0 (barCell c)) = (tallyAt (barCell c) () 2 : CellTallies nD τ sig Unit) :=
  launched _ _ (by rw [Finset.sum_congr rfl fun d _ => owed_bar d c, Finset.sum_add_distrib, sum_one, sum_one])
theorem launched_fin (c : Dev nD) : tallyOn (finCell c) (launchCredit (Pipeline.owing O₀) 0 (finCell c)) = (tallyAt (finCell c) () 2 : CellTallies nD τ sig Unit) :=
  launched _ _ (by rw [Finset.sum_congr rfl fun d _ => owed_fin d c, Finset.sum_add_distrib, sum_one, sum_one])
theorem launched_x (c : Dev nD) (k : Hop) (o : Bool) :
    tallyOn (xCell c k true o) (launchCredit (Pipeline.owing O₀) 0 (xCell c k true o)) = (tallyAt (xCell c k true o) () (NN o) : CellTallies nD τ sig Unit) :=
  launched _ _ (by rw [Finset.sum_congr rfl fun d _ => owed_x d c k o, sum_one])

/-- The credit a device starts with on one of its own cells. -/
def startC (c : Dev nD) (k : OS) : sProp 𝕄 := cred (tallyOn (oCell c k) (launchCredit (Pipeline.owing O₀) 0 (oCell c k)))
theorem startC_x (c : Dev nD) (k : Hop) : four (startC (F := F) c) k ⊢ crd c k true := by
  unfold four crd
  refine sep_elim_right.trans (Entails.of_eq ?_)
  unfold startC
  exact congrArg₂ (fun X Y : CellTallies nD τ sig Unit => (iprop(cred X ∗ cred Y) : sProp 𝕄)) (launched_x c k false) (launched_x c k true)

theorem credits_intro (c : Dev nD) : (Pipeline.launchCred O₀ c : sProp 𝕄) ⊢ credits c := by
  have hs : (Finset.univ.map ⟨osem, osem_inj⟩ : Finset (SemLoc sig)) ⊆ Finset.univ.erase (.reg barS.sem) := fun s hs => by
    obtain ⟨k, -, rfl⟩ := Finset.mem_map.mp hs
    exact Finset.mem_erase.mpr ⟨osem_ne_bar k, Finset.mem_univ _⟩
  unfold Pipeline.launchCred credits
  rw [bigSep_univ_at _ (SemLoc.reg barS.sem), launched_bar]
  refine sep_mono_right ((BI.bigSep_subset hs).trans ?_)
  rw [bigSep_map]
  refine BIBase.Entails.trans (Entails.of_eq (os_sep (startC (F := F) c))) ?_
  refine sep_mono (Entails.of_eq (congrArg (fun X : CellTallies nD τ sig Unit => (cred X : sProp 𝕄)) (launched_fin c))) (sep_mono ?_ ?_)
  · exact bigSep_mono fun h _ => startC_x c (.inl h)
  · exact bigSep_mono fun h _ => startC_x c (.inr h)

/-! ## The program -/

theorem unscoped_one : ∀ sm : SemLoc sig, sm.isScoped .tc = false → sm = .reg barS.sem := by decide
theorem unscopedSems_bar (c : Dev nD) : (unscopedSems0 c : sProp 𝕄) = semVal (barCell c) 0 := by
  unfold unscopedSems0
  rw [show (Finset.univ.filter fun sm : SemLoc sig => ¬ sm.isScoped .tc) = {.reg barS.sem} from by decide, bigSep_singleton]

def EE (c : Dev nD) : sProp 𝕄 := iprop(Tk m c ∗ (∃ r, prngReg c r) ∗ ∃ W, owes (c : Thread nD τ) (O₀ c) W)
def Tfirst (c : Dev nD) : sProp 𝕄 := iprop(StableHlo.held (c : Thread nD τ) (Pipeline.ucRefs τ sig) (V0 m c) ∗ EE m c)
def Tlast (c : Dev nD) : sProp 𝕄 := iprop(StableHlo.held (c : Thread nD τ) (Pipeline.ucRefs τ sig) (Vend m c) ∗ postTalk m c)

/-- What a device holds at launch besides the duties and the records. -/
def kit (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem Tfirst_intro (κ : GSem nD τ sig → ℕ) (c : Dev nD) : iprop(records m κ ∗ (dealt c ∗ kit m c)) ⊢ Tfirst m c := by
  unfold kit Tfirst EE
  iintro ⟨#HR, Hl, Hh, HC, HO, Hp⟩
  isplitl [Hh]; · iexact Hh
  isplitl [Hl HC]
  · iapply (Tk_intro m κ c)
    isplitr; · iexact HR
    isplitl [Hl] <;> iassumption
  isplitl [Hp]; · iexact Hp
  iexists ∅; iexact HO

theorem kit_intro (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(kit m c ∗ (semVal (barCell c) 0 ∗ G c)) : sProp 𝕄) := by
  rw [show (unscopedBufs c (fun b => m ((c.tc : Thread nD τ).loc b)) : sProp 𝕄) = StableHlo.held (c : Thread nD τ) (Pipeline.ucRefs τ sig) (V0 m c)
    from Pipeline.unscopedBufs_held c (V0 m c), unscopedSems_bar]
  unfold kit
  iintro ⟨Hh, Hus, HO, Hcr, Hp, HG⟩
  isplitl [Hh HO Hcr Hp]
  · isplitl [Hh]; · iexact Hh
    isplitl [Hcr]; · iapply (credits_intro (F := F) c) $$ Hcr
    isplitl [HO]; · iexact HO
    iexists (ρ c); iexact Hp
  isplitl [Hus] <;> iassumption

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (Tfirst m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ fun k : OS => (openTok ER (oCell c k) : sProp 𝕄)) :=
    Entails.of_eq (by rw [bigSep_map, bigSep_univ_prod]; rfl)
  have hinv (κ : GSem nD τ sig → ℕ) : bigSep (barCells ∪ ownCells) (fun g => (cellInv ER (rd (wA m) (wB m)) (κ g) g : sProp 𝕄)) ⊢ IV κ :=
    Entails.of_eq (by rw [BI.bigSep_union cells_disjoint, bigSep_map, bigSep_map]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(kit m c ∗ (semVal (barCell c) 0 ∗ G c)) : sProp 𝕄) from bigSep_mono fun c _ => kit_intro m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells ownCells duties)) from
    Entails.of_eq (sep_atDev (F := F) 0 (BI.own (ER (launchOf barCells ownCells duties))))) $$ HG
  imod (Rounds.fund_launch ER (rd (wA m) (wB m)) cells_disjoint (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt c ∗ kit m c)) fun c _ => Tfirst_intro m κ c)
  isplitr
  · unfold records
    isplitr; · iapply (hinv κ); iexact Hinv
    iapply hre; iexact Hr
  iapply (Entails.of_eq (bigSep_sep' _ _ _).symm)
  isplitr [HB]
  · unfold dealt
    iapply (Entails.of_eq (bigSep_sep' _ _ _).symm); isplitl [Hat]; · iapply hat $$ Hat
    iapply (Entails.of_eq (bigSep_sep' _ _ _).symm); isplitl [Hopen]; · iapply hopen $$ Hopen
    iapply (duties_dealt (F := F)) $$ Htok
  · iexact HB

theorem arr_sub : Pipeline.arrRefs (τ := τ) spec0 ⊆ Pipeline.ucRefs τ sig := fun b hb => by
  unfold Pipeline.arrRefs at hb
  obtain ⟨r, hr, rfl⟩ := Finset.mem_map.mp hb
  obtain ⟨w, -, rfl⟩ := Finset.mem_image.mp hr
  refine Finset.mem_filter.mpr ⟨StableHlo.devRef_mem_tcRefs _, ?_⟩
  revert w; decide

theorem reg0_pre (c : Dev nD) : iprop(StableHlo.held (c : Thread nD τ) (Pipeline.ucRefs τ sig) (V1 m c) ∗ EE m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) (Pipeline.ucRefs τ sig \ Pipeline.arrRefs spec0) (V1 m c) ∗ emp) ∗ Tk m c ∗ ∃ Wd, owes (c : Thread nD τ) (0 + O₀ c) Wd)
  rw [StableHlo.held_sub_split (c : Thread nD τ) arr_sub (V1 m c), zero_add]
  unfold EE
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c ⊢ iprop(Tlast m c ∗ ∃ W, owes (c : Thread nD τ) (0 : CellTallies nD τ sig Unit) W) := by
  show iprop(StableHlo.held (c.tc : Thread nD τ) (Pipeline.arrRefs (τ := τ) spec0) (Vend m c) ∗ (∃ r, prngReg c r)
    ∗ (StableHlo.held (c.tc : Thread nD τ) (Pipeline.ucRefs τ sig \ Pipeline.arrRefs spec0) (Vend m c) ∗ emp) ∗ postTalk m c
    ∗ ∃ Wd, owes (c : Thread nD τ) (0 : CellTallies nD τ sig Unit) Wd) ⊢ _
  unfold Tlast
  rw [StableHlo.held_sub_split (c : Thread nD τ) arr_sub (Vend m c)]
  iintro ⟨Ha, -, ⟨Hr, -⟩, Hy, HO⟩
  isplitr [HO]
  · isplitl [Ha Hr]
    · isplitl [Ha] <;> iassumption
    iexact Hy
  iexact HO

/-- What is read off the last state. -/
def Ends (c : Dev nD) (s : MemSt nD τ sig (Elt F)) : Prop :=
  (∀ r : Ref sig .tc, (Proc.devRef .tc r : DevRef τ sig) ∈ Pipeline.ucRefs τ sig → s.mem ((c : Thread nD τ).loc r) = Vend m c r) ∧ s.sem (barCell c) = 0

theorem ends (c : Dev nD) (s' : Phys nD τ sig (Elt F)) : iprop(Tlast m c ∗ SI s') ⊢ (|={Set.univ}=> iprop(⌜Ends m c s'.mem⌝ ∗ SI s') : sProp 𝕄) := by
  unfold Tlast postTalk StableHlo.held
  iintro ⟨⟨Hh, ⟨%κ, #HI⟩, Hat⟩, HSI⟩
  ihave Hr := (pointsTo_read_all (Pipeline.ucRefs τ sig) (fun b => ((c : Thread nD τ).1, b)) (Vend m c) s') $$ [Hh HSI]
  · isplitl [Hh] <;> iassumption
  icases Hr with ⟨%h, HSI⟩
  imod (body_counter_zero ER (rd (wA m) (wB m)) (Set.mem_univ (κ (barCell c))) (duties_later (wA m) (wB m) (barCell c) 1 (Nat.le_refl 1)) s') $$ [Hat HSI] with ⟨%h0, -, HSI⟩
  · isplitr; · iapply (Inv_bar (wA m) (wB m) κ c); iexact HI
    isplitl [Hat] <;> iassumption
  imodintro
  isplitr
  · ipureintro
    exact ⟨fun r hr => h _ hr, h0⟩
  iexact HSI

set_option backward.isDefEq.respectTransparency.types false in
/-- The run: from any memory with zero counters every fair run of the program on the sixteen devices ends, with the
    arguments as they were, the result at its value, and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v22) = outD m c) ∧ r.2.sem = fun _ => 0) :=
  Pipeline.θ_run_regions_kit_dev_sems (pcfgs (F := F)) adm (pdats m) () cellOf_inj EP defs₀ 𝒱₀ L lv m ρ main
    (segs m 𝒱₀ L lv (fun _ => EE m) () (pdats m) (reg0 m))
    (fun c Q => by
      rewrite [main_chain c, Pipeline.Seg.run_eq_chain,
        show (segs m 𝒱₀ L lv (fun _ => EE m) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [sep_atDev]; iexact HX)
    (T₀ := Tfirst m) (Tₙ := Tlast m)
    (hch := fun c => ⟨.rfl, reg0_pre m c, reg0_post m c⟩)
    (hinit := init m ρ)
    (QY := Ends m)
    (hfin := ends m)
    (hQ := fun s h hs => ⟨fun c => by
        have hr (r : Ref sig .tc) (h1 : r ∉ hostOps0_W) (h2 : r ≠ main_v22) (h3 : (Proc.devRef .tc r : DevRef τ sig) ∈ Pipeline.ucRefs τ sig) :
            s.mem ((c : Thread nD τ).loc r) = m ((c : Thread nD τ).loc r) :=
          ((h c).1 r h3).trans ((Vend_of m c r h2).trans (V1_of m c r h1))
        have hu (r : Ref sig .tc) (h : r.isScoped = false) : (Proc.devRef .tc r : DevRef τ sig) ∈ Pipeline.ucRefs τ sig :=
          Finset.mem_filter.mpr ⟨StableHlo.devRef_mem_tcRefs r, by simpa using h⟩
        exact ⟨⟨hr main_arg0 (by decide) (by decide) (hu _ (by decide)), hr main_arg1 (by decide) (by decide) (hu _ (by decide)),
          hr main_arg2 (by decide) (by decide) (hu _ (by decide)), hr main_arg3 (by decide) (by decide) (hu _ (by decide)),
          hr main_arg4 (by decide) (by decide) (hu _ (by decide))⟩, ((h c).1 main_v22 (hu _ (by decide))).trans (Vend_out m c)⟩,
      sem_eq_zero hs fun c sm hsm => by
        obtain rfl := unscoped_one sm hsm
        exact (h c).2⟩)

end Cert.KernelIdeal.K
end
end
-- ==== Proof.Val.Kern.lean ====
module

public import proofs.«01_k».proof.Proof.KI.Clean
public import Idealize.ShloMosaic.Lib.Pointwise

@[expose] public section

set_option maxRecDepth 16384

noncomputable section

namespace Cert.KernelIdeal.K

open Idealize.ShloMosaic
open Cert.KernelIdeal Cert.KernelIdeal.Gen

/-- The score of query row `i` against key row `j`: masked out unless `j`'s group of 64 is not after `i`'s. -/
def scr (q k : Fin 256 → Fin 64 → EReal) (i j : Fin 256) : EReal :=
  if j.val / 64 ≤ i.val / 64 then (∑ d : Fin 64, q i d * k j d) * Ideal.ofBits .f32 0x3E000000#32 else Ideal.ofBits .f32 0xCE6E6B28#32

/-- One head's attention without the shift by the row maximum. -/
def att (q k v : Fin 256 → Fin 64 → EReal) (i : Fin 256) (d : Fin 64) : EReal :=
  Ideal.div (∑ j : Fin 256, Ideal.exp (scr q k i j) * v j d) (∑ j : Fin 256, Ideal.exp (scr q k i j))

/-- The group of 64 a position is in, as the kernel computes it. -/
theorem grp_vec (i : Fin 256) :
    Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32) = BitVec.ofNat 32 (i.val / 64) := by
  revert i; decide

theorem sle_grp (a b : Fin 4) : IntOp.cmpi CmpIPredicate.sle (BitVec.ofNat 32 a.val) (BitVec.ofNat 32 b.val) = if a.val ≤ b.val then 1#1 else 0#1 := by
  revert a b; decide

theorem maskV_apply (i j : Fin 256) : maskV (ix2 i j) = if j.val / 64 ≤ i.val / 64 then 1#1 else 0#1 := by
  unfold maskV k0_pay5 k0_pay3 k0_pay4
  pointwise
  rw [grp_vec i, grp_vec j]
  exact sle_grp ⟨j.val / 64, by omega⟩ ⟨i.val / 64, by omega⟩

theorem select_bit {α : Type} (p : Prop) [Decidable p] (a b : α) : Scalar.select (if p then 1#1 else 0#1) a b = if p then a else b := by
  by_cases h : p <;> simp [h, Scalar.select]

theorem headV_apply (q : FVec Ideal S256x64 .f32) (k v : Vec Ideal S1x1x256x64 .bf16) (i : Fin 256) (d : Fin 64) :
    headV (F := Ideal) maskV q k v (ix2 i d)
      = att (fun i d => q (ix2 i d)) (fun i d => k (ix4 0 0 i d)) (fun i d => v (ix4 0 0 i d)) i d := by
  unfold att scr
  pointwise [headV]
  simp only [maskV_apply, select_bit]

/-- The projected queries at an index. -/
theorem qallV_apply (x : FVec Ideal S512x512 .bf16) (w : Vec Ideal S1x512x256 .bf16) (r : Fin 512) (l : Fin 256) :
    qallV (F := Ideal) x w (ix2 r l) = ∑ e : Fin 512, x (ix2 r e) * w (ix3 0 e l) := by
  pointwise [qallV]

theorem cat4_apply (f0 f1 f2 f3 : FVec Ideal S256x64 .f32) (f : Fin 4 → FVec Ideal S256x64 .f32)
    (h0 : f 0 = f0) (h1 : f 1 = f1) (h2 : f 2 = f2) (h3 : f 3 = f3) (i : Fin 256) (l : Fin 256) :
    concatenate S256x256 1 [⟨S256x64, f0⟩, ⟨S256x64, f1⟩, ⟨S256x64, f2⟩, ⟨S256x64, f3⟩]
        concatenates_S256x64_S256x64_S256x64_S256x64_S256x256_d1 (ix2 i l)
      = f ⟨l.val / 64, by omega⟩ (ix2 i ⟨l.val % 64, by omega⟩) := by
  subst h0 h1 h2 h3
  obtain ⟨j, d, hl⟩ : ∃ (j : Fin 4) (d : Fin 64), l = ⟨64 * j.val + d.val, by omega⟩ :=
    ⟨⟨l.val / 64, by omega⟩, ⟨l.val % 64, by omega⟩, Fin.ext (by simp; omega)⟩
  subst hl
  have e1 : (⟨(64 * j.val + d.val) / 64, by omega⟩ : Fin 4) = j := Fin.ext (by simp; omega)
  have e2 : (⟨(64 * j.val + d.val) % 64, by omega⟩ : Fin 64) = d := Fin.ext (by show (64 * j.val + d.val) % 64 = d.val; omega)
  simp only [e1, e2]
  pointwise
  match j with
  | 0 => rw [dif_pos (by show 64 * 0 + d.val < 64; omega)]; congr 2; exact Fin.ext (by show 64 * 0 + d.val = d.val; omega)
  | 1 =>
    rw [dif_neg (by show ¬(64 * 1 + d.val < 64); omega), dif_pos (by show 64 * 1 + d.val - 64 < 64; omega)]
    congr 2; exact Fin.ext (by show 64 * 1 + d.val - 64 = d.val; omega)
  | 2 =>
    rw [dif_neg (by show ¬(64 * 2 + d.val < 64); omega), dif_neg (by show ¬(64 * 2 + d.val - 64 < 64); omega), dif_pos (by show 64 * 2 + d.val - 64 - 64 < 64; omega)]
    congr 2; exact Fin.ext (by show 64 * 2 + d.val - 64 - 64 = d.val; omega)
  | 3 =>
    rw [dif_neg (by show ¬(64 * 3 + d.val < 64); omega), dif_neg (by show ¬(64 * 3 + d.val - 64 < 64); omega), dif_neg (by show ¬(64 * 3 + d.val - 64 - 64 < 64); omega)]
    congr 2; exact Fin.ext (by show 64 * 3 + d.val - 64 - 64 - 64 = d.val; omega)

theorem cat4_of (f0 f1 f2 f3 : FVec Ideal S256x64 .f32) (g : Fin 4 → Fin 64 → EReal) (i l : Fin 256)
    (h0 : ∀ d, f0 (ix2 i d) = g 0 d) (h1 : ∀ d, f1 (ix2 i d) = g 1 d) (h2 : ∀ d, f2 (ix2 i d) = g 2 d) (h3 : ∀ d, f3 (ix2 i d) = g 3 d) :
    concatenate S256x256 1 [⟨S256x64, f0⟩, ⟨S256x64, f1⟩, ⟨S256x64, f2⟩, ⟨S256x64, f3⟩]
        concatenates_S256x64_S256x64_S256x64_S256x64_S256x256_d1 (ix2 i l)
      = g ⟨l.val / 64, by omega⟩ ⟨l.val % 64, by omega⟩ := by
  rw [cat4_apply f0 f1 f2 f3 (fun j => match j with | 0 => f0 | 1 => f1 | 2 => f2 | 3 => f3) rfl rfl rfl rfl]
  have e : ∀ (j : Fin 4) (d : Fin 64), (match j with | 0 => f0 | 1 => f1 | 2 => f2 | 3 => f3 : FVec Ideal S256x64 .f32) (ix2 i d) = g j d := by
    intro j d
    match j with
    | 0 => exact h0 d
    | 1 => exact h1 d
    | 2 => exact h2 d
    | 3 => exact h3 d
  exact e _ _

theorem cat2_zero (c0 c1 : FVec Ideal S256x256 .f32) (i l : Fin 256) :
    concatenate S512x256 0 [⟨S256x256, c0⟩, ⟨S256x256, c1⟩] concatenates_S256x256_S256x256_S512x256_d0 (ix2 ⟨i.val, by omega⟩ l) = c0 (ix2 i l) := by
  pointwise

theorem cat2_one (c0 c1 : FVec Ideal S256x256 .f32) (i l : Fin 256) :
    concatenate S512x256 0 [⟨S256x256, c0⟩, ⟨S256x256, c1⟩] concatenates_S256x256_S256x256_S512x256_d0 (ix2 ⟨256 + i.val, by omega⟩ l) = c1 (ix2 i l) := by
  pointwise

/-- The heads' outputs of a block, side by side. -/
def ctxV (q : FVec Ideal S512x256 .f32) (k0 v0 k1 v1 k2 v2 k3 v3 k4 v4 k5 v5 k6 v6 k7 v7 : Vec Ideal S1x1x256x64 .bf16) : FVec Ideal S512x256 .f32 :=
  concatenate S512x256 0 [⟨S256x256, concatenate S256x256 1
    [⟨S256x64, headV maskV (extractStridedSlice S256x64 ![0, 0] q slices_S512x256_o0_0_S256x64) k0 v0⟩,
     ⟨S256x64, headV maskV (extractStridedSlice S256x64 ![0, 64] q slices_S512x256_o0_64_S256x64) k1 v1⟩,
     ⟨S256x64, headV maskV (extractStridedSlice S256x64 ![0, 128] q slices_S512x256_o0_128_S256x64) k2 v2⟩,
     ⟨S256x64, headV maskV (extractStridedSlice S256x64 ![0, 192] q slices_S512x256_o0_192_S256x64) k3 v3⟩]
    concatenates_S256x64_S256x64_S256x64_S256x64_S256x256_d1⟩, ⟨S256x256, concatenate S256x256 1
    [⟨S256x64, headV maskV (extractStridedSlice S256x64 ![256, 0] q slices_S512x256_o256_0_S256x64) k4 v4⟩,
     ⟨S256x64, headV maskV (extractStridedSlice S256x64 ![256, 64] q slices_S512x256_o256_64_S256x64) k5 v5⟩,
     ⟨S256x64, headV maskV (extractStridedSlice S256x64 ![256, 128] q slices_S512x256_o256_128_S256x64) k6 v6⟩,
     ⟨S256x64, headV maskV (extractStridedSlice S256x64 ![256, 192] q slices_S512x256_o256_192_S256x64) k7 v7⟩]
    concatenates_S256x64_S256x64_S256x64_S256x64_S256x256_d1⟩] concatenates_S256x256_S256x256_S512x256_d0

section ctx
variable (q : FVec Ideal S512x256 .f32) (k v : Fin 2 → Fin 4 → Vec Ideal S1x1x256x64 .bf16) (i l : Fin 256)

theorem ctxV_zero : ctxV q (k 0 0) (v 0 0) (k 0 1) (v 0 1) (k 0 2) (v 0 2) (k 0 3) (v 0 3) (k 1 0) (v 1 0) (k 1 1) (v 1 1) (k 1 2) (v 1 2) (k 1 3) (v 1 3)
        (ix2 ⟨i.val, by omega⟩ l)
      = att (fun i d => q (ix2 ⟨i.val, by omega⟩ ⟨64 * (l.val / 64) + d.val, by omega⟩))
          (fun t d => k 0 ⟨l.val / 64, by omega⟩ (ix4 0 0 t d)) (fun t d => v 0 ⟨l.val / 64, by omega⟩ (ix4 0 0 t d)) i ⟨l.val % 64, by omega⟩ := by
  unfold ctxV
  rw [cat2_zero]
  refine cat4_of _ _ _ _ (fun j dd => att (fun i d => q (ix2 ⟨i.val, by omega⟩ ⟨64 * j.val + d.val, by omega⟩)) (fun t d => k 0 j (ix4 0 0 t d)) (fun t d => v 0 j (ix4 0 0 t d)) i dd) i l ?_ ?_ ?_ ?_
  · intro dd
    rw [headV_apply]
    refine congrArg (fun f => att f _ _ i dd) (funext fun i => funext fun d => ?_)
    pointwise
  · intro dd
    rw [headV_apply]
    refine congrArg (fun f => att f _ _ i dd) (funext fun i => funext fun d => ?_)
    pointwise
  · intro dd
    rw [headV_apply]
    refine congrArg (fun f => att f _ _ i dd) (funext fun i => funext fun d => ?_)
    pointwise
  · intro dd
    rw [headV_apply]
    refine congrArg (fun f => att f _ _ i dd) (funext fun i => funext fun d => ?_)
    pointwise

theorem ctxV_one : ctxV q (k 0 0) (v 0 0) (k 0 1) (v 0 1) (k 0 2) (v 0 2) (k 0 3) (v 0 3) (k 1 0) (v 1 0) (k 1 1) (v 1 1) (k 1 2) (v 1 2) (k 1 3) (v 1 3)
        (ix2 ⟨256 + i.val, by omega⟩ l)
      = att (fun i d => q (ix2 ⟨256 + i.val, by omega⟩ ⟨64 * (l.val / 64) + d.val, by omega⟩))
          (fun t d => k 1 ⟨l.val / 64, by omega⟩ (ix4 0 0 t d)) (fun t d => v 1 ⟨l.val / 64, by omega⟩ (ix4 0 0 t d)) i ⟨l.val % 64, by omega⟩ := by
  unfold ctxV
  rw [cat2_one]
  refine cat4_of _ _ _ _ (fun j dd => att (fun i d => q (ix2 ⟨256 + i.val, by omega⟩ ⟨64 * j.val + d.val, by omega⟩)) (fun t d => k 1 j (ix4 0 0 t d)) (fun t d => v 1 j (ix4 0 0 t d)) i dd) i l ?_ ?_ ?_ ?_
  · intro dd
    rw [headV_apply]
    refine congrArg (fun f => att f _ _ i dd) (funext fun i => funext fun d => ?_)
    pointwise
  · intro dd
    rw [headV_apply]
    refine congrArg (fun f => att f _ _ i dd) (funext fun i => funext fun d => ?_)
    pointwise
  · intro dd
    rw [headV_apply]
    refine congrArg (fun f => att f _ _ i dd) (funext fun i => funext fun d => ?_)
    pointwise
  · intro dd
    rw [headV_apply]
    refine congrArg (fun f => att f _ _ i dd) (funext fun i => funext fun d => ?_)
    pointwise

end ctx

theorem stepV_eq (x : FVec Ideal S512x512 .bf16) (acc : FVec Ideal S512x512 .f32) (w : Vec Ideal S1x512x256 .bf16) (wo : Vec Ideal S1x256x512 .bf16)
    (k0 v0 k1 v1 k2 v2 k3 v3 k4 v4 k5 v5 k6 v6 k7 v7 : Vec Ideal S1x1x256x64 .bf16) (r n : Fin 512) :
    stepV (F := Ideal) maskV x acc w wo k0 v0 k1 v1 k2 v2 k3 v3 k4 v4 k5 v5 k6 v6 k7 v7 (ix2 r n)
      = acc (ix2 r n) + ∑ l : Fin 256, ctxV (qallV x w) k0 v0 k1 v1 k2 v2 k3 v3 k4 v4 k5 v5 k6 v6 k7 v7 (ix2 r l) * wo (ix3 0 l n) := by
  show addf acc (matmul dot_S512x256_S256x512_S512x512_1_0_0_1_n_n none (truncf .bf16 (ctxV (qallV x w) k0 v0 k1 v1 k2 v2 k3 v3 k4 v4 k5 v5 k6 v6 k7 v7) bitsLt_bf16_f32)
    (shapeCast S256x512 wo shapeCasts_S1x256x512_S256x512 : FVec Ideal S256x512 .bf16) (constant S512x512 .f32 0x00000000#32)) (ix2 r n) = _
  pointwise

end Cert.KernelIdeal.K
-- ==== Proof.Val.Total.lean ====
module

public import proofs.«01_k».proof.Proof.Val.Kern
public import proofs.«01_k».proof.Proof.KI.Launch

@[expose] public section

set_option maxRecDepth 16384

noncomputable section

namespace Cert.KernelIdeal.K

open Idealize.ShloMosaic
open Cert.KernelIdeal Cert.KernelIdeal.Gen

/-! ## Reading the key and value blocks -/

theorem off1_val (c : Fin 16) (s : Fin 16) (j : Fin 4) :
    k0_off1 c (BitVec.ofNat 32 s.val) (BitVec.ofNat 32 j.val) 0 = 4 * ((c.val + s.val) % 16) + j.val
      ∧ k0_off1 c (BitVec.ofNat 32 s.val) (BitVec.ofNat 32 j.val) 1 = 0 ∧ k0_off1 c (BitVec.ofNat 32 s.val) (BitVec.ofNat 32 j.val) 2 = 0
      ∧ k0_off1 c (BitVec.ofNat 32 s.val) (BitVec.ofNat 32 j.val) 3 = 0 := by
  revert c s j; decide
theorem off2_val (c : Fin 16) (s : Fin 16) (j : Fin 4) :
    k0_off2 c (BitVec.ofNat 32 s.val) (BitVec.ofNat 32 j.val) 0 = 4 * ((c.val + s.val) % 16) + j.val
      ∧ k0_off2 c (BitVec.ofNat 32 s.val) (BitVec.ofNat 32 j.val) 1 = 1 ∧ k0_off2 c (BitVec.ofNat 32 s.val) (BitVec.ofNat 32 j.val) 2 = 0
      ∧ k0_off2 c (BitVec.ofNat 32 s.val) (BitVec.ofNat 32 j.val) 3 = 0 := by
  revert c s j; decide

theorem rd0_apply (g : Vec Ideal S64x2x256x64 .bf16) (c : Dev nD) (s : Fin 16) (j : Fin 4) (t : Fin 256) (d : Fin 64) :
    rd0 (F := Ideal) g c s j (ix4 0 0 t d) = g (ix4 ⟨4 * ((c.val + s.val) % 16) + j.val, by omega⟩ 0 t d) := by
  unfold rd0
  obtain ⟨h0, h1, h2, h3⟩ := off1_val c s j
  refine congrArg g (funext fun a => Fin.ext ?_)
  match a with
  | 0 => show k0_off1 c (BitVec.ofNat 32 s.val) (BitVec.ofNat 32 j.val) 0 + 1 * 0 = 4 * ((c.val + s.val) % 16) + j.val; omega
  | 1 => show k0_off1 c (BitVec.ofNat 32 s.val) (BitVec.ofNat 32 j.val) 1 + 1 * 0 = 0; omega
  | 2 => show k0_off1 c (BitVec.ofNat 32 s.val) (BitVec.ofNat 32 j.val) 2 + 1 * t.val = t.val; omega
  | 3 => show k0_off1 c (BitVec.ofNat 32 s.val) (BitVec.ofNat 32 j.val) 3 + 1 * d.val = d.val; omega

theorem rd1_apply (g : Vec Ideal S64x2x256x64 .bf16) (c : Dev nD) (s : Fin 16) (j : Fin 4) (t : Fin 256) (d : Fin 64) :
    rd1 (F := Ideal) g c s j (ix4 0 0 t d) = g (ix4 ⟨4 * ((c.val + s.val) % 16) + j.val, by omega⟩ 1 t d) := by
  unfold rd1
  obtain ⟨h0, h1, h2, h3⟩ := off2_val c s j
  refine congrArg g (funext fun a => Fin.ext ?_)
  match a with
  | 0 => show k0_off2 c (BitVec.ofNat 32 s.val) (BitVec.ofNat 32 j.val) 0 + 1 * 0 = 4 * ((c.val + s.val) % 16) + j.val; omega
  | 1 => show k0_off2 c (BitVec.ofNat 32 s.val) (BitVec.ofNat 32 j.val) 1 + 1 * 0 = 1; omega
  | 2 => show k0_off2 c (BitVec.ofNat 32 s.val) (BitVec.ofNat 32 j.val) 2 + 1 * t.val = t.val; omega
  | 3 => show k0_off2 c (BitVec.ofNat 32 s.val) (BitVec.ofNat 32 j.val) 3 + 1 * d.val = d.val; omega

/-! ## One block, then all of them -/

section
variable (A : Dev nD → Vec Ideal S512x256 .bf16) (B : Dev nD → Vec Ideal S256x512 .bf16)
variable (x : FVec Ideal S512x512 .bf16) (g3 g4 : Vec Ideal S64x2x256x64 .bf16)

theorem blkQ_apply (o : Dev nD) (e : Fin 512) (l : Fin 256) : (blkQ A o : Vec Ideal S1x512x256 .bf16) (ix3 0 e l) = A o (ix2 e l) := by
  pointwise [blkQ, k0_pay1]
theorem blkO_apply (o : Dev nD) (l : Fin 256) (n : Fin 512) : (blkO B o : Vec Ideal S1x256x512 .bf16) (ix3 0 l n) = B o (ix2 l n) := by
  pointwise [blkO, k0_pay2]

/-- What the block of device `o` adds at column `n` of row `i` of batch row group `b`. -/
def blkT (b : Fin 2) (i : Fin 256) (n : Fin 512) (o : Fin 16) : EReal :=
  ∑ l : Fin 256, att (fun i d => ∑ e : Fin 512, x (ix2 ⟨256 * b.val + i.val, by omega⟩ e) * A o (ix2 e ⟨64 * (l.val / 64) + d.val, by omega⟩))
    (fun t d => g3 (ix4 ⟨4 * o.val + l.val / 64, by omega⟩ b t d)) (fun t d => g4 (ix4 ⟨4 * o.val + l.val / 64, by omega⟩ b t d)) i ⟨l.val % 64, by omega⟩
    * B o (ix2 l n)

theorem accV_apply (c : Dev nD) (s : Fin 16) (acc : FVec Ideal S512x512 .f32) (b : Fin 2) (i : Fin 256) (n : Fin 512) :
    accV A B c x g3 g4 s acc (ix2 ⟨256 * b.val + i.val, by omega⟩ n) = acc (ix2 ⟨256 * b.val + i.val, by omega⟩ n) + blkT A B x g3 g4 b i n (own c s) := by
  unfold accV
  rw [stepV_eq]
  unfold blkT
  refine congrArg _ (Finset.sum_congr rfl fun l _ => ?_)
  rw [blkO_apply]
  refine congrArg (· * _) ?_
  match b with
  | 0 =>
    have h := ctxV_zero (qallV x (blkQ A (own c s))) (fun b j => match b with | 0 => rd0 g3 c s j | 1 => rd1 g3 c s j)
      (fun b j => match b with | 0 => rd0 g4 c s j | 1 => rd1 g4 c s j) i l
    have e : (⟨256 * (0 : Fin 2).val + i.val, by omega⟩ : Fin 512) = ⟨i.val, by omega⟩ := Fin.ext (by show 256 * 0 + i.val = i.val; omega)
    rw [e]
    refine h.trans ?_
    simp only [qallV_apply, blkQ_apply, rd0_apply]
    have e' : ∀ i : Fin 256, (⟨256 * (0 : Fin 2).val + i.val, by omega⟩ : Fin 512) = ⟨i.val, by omega⟩ :=
      fun i => Fin.ext (by show 256 * 0 + i.val = i.val; omega)
    simp only [e']
    rfl
  | 1 =>
    have h := ctxV_one (qallV x (blkQ A (own c s))) (fun b j => match b with | 0 => rd0 g3 c s j | 1 => rd1 g3 c s j)
      (fun b j => match b with | 0 => rd0 g4 c s j | 1 => rd1 g4 c s j) i l
    have e : (⟨256 * (1 : Fin 2).val + i.val, by omega⟩ : Fin 512) = ⟨256 + i.val, by omega⟩ := Fin.ext (by show 256 * 1 + i.val = 256 + i.val; omega)
    rw [e]
    refine h.trans ?_
    simp only [qallV_apply, blkQ_apply, rd1_apply]
    rfl

theorem own_bij (c : Dev nD) : Function.Bijective (own c) := by
  rw [← Finite.injective_iff_bijective]
  revert c; unfold Function.Injective; decide

theorem allV_apply (c : Dev nD) (b : Fin 2) (i : Fin 256) (n : Fin 512) :
    allV A B c x g3 g4 (ix2 ⟨256 * b.val + i.val, by omega⟩ n) = ∑ o : Fin 16, blkT A B x g3 g4 b i n o := by
  rw [← (own_bij c).sum_comp (blkT A B x g3 g4 b i n)]
  unfold allV roundV
  simp only [accV_apply]
  generalize hT : (fun s => blkT A B x g3 g4 b i n (own c s)) = T
  have hT' : ∀ s, blkT A B x g3 g4 b i n (own c s) = T s := fun s => congrFun hT s
  simp only [hT']
  have hz : (broadcast S512x512 (Scalar.ofBits (F := Ideal) .f32 0x00000000#32) : FVec Ideal S512x512 .f32) (ix2 ⟨256 * b.val + i.val, by omega⟩ n) = 0 := by
    pointwise
  rw [hz, Fin.sum_univ_castSucc]
  simp only [Fin.sum_univ_castSucc, Fin.sum_univ_zero]
  change 0 + T 0 + T 15 + T 1 + T 14 + T 2 + T 13 + T 3 + T 12 + T 4 + T 11 + T 5 + T 10 + T 6 + T 9 + T 7 + T 8
    = 0 + T 0 + T 1 + T 2 + T 3 + T 4 + T 5 + T 6 + T 7 + T 8 + T 9 + T 10 + T 11 + T 12 + T 13 + T 14 + T 15
  ac_rfl

theorem rowsV_apply (y : Vec Ideal S2x256x512 .bf16) (b : Fin 2) (i : Fin 256) (e : Fin 512) :
    rowsV (F := Ideal) y (ix2 ⟨256 * b.val + i.val, by omega⟩ e) = y (ix3 b i e) := by
  pointwise [rowsV]

theorem outV_apply (c : Dev nD) (y : Vec Ideal S2x256x512 .bf16) (b : Fin 2) (i : Fin 256) (n : Fin 512) :
    outV A B c y g3 g4 (ix3 b i n) = ∑ o : Fin 16, blkT A B (rowsV y) g3 g4 b i n o := by
  rw [← allV_apply A B (rowsV y) g3 g4 c b i n]
  pointwise [outV]
  refine congrArg _ (congrArg (fun r => ix2 r n) (Fin.ext ?_))
  show b.val * 256 + i.val = 256 * b.val + i.val
  omega

end

end Cert.KernelIdeal.K
-- ==== Proof.Val.Host.lean ====
module

public import proofs.«01_k».proof.Proof.Val.Total
public import Idealize.ShloMosaic.Lib.Claim
public import Idealize.ShloMosaic.Lib.StableHlo.RunClose

@[expose] public section

set_option maxRecDepth 16384

noncomputable section

namespace Cert.KernelIdeal.K

open Idealize.ShloMosaic Idealize.SL.Sem
open Cert.KernelIdeal Cert.KernelIdeal.Gen

variable (m : (ℓ : Loc nD τ sig) → Buf (Elt Ideal) ℓ)

theorem inX_eq (d : Dev nD) (i : S2x256x512.Idx) : inX (F := Ideal) m d i = (m ((d.tc : Thread nD τ).loc main_arg0) : FVec Ideal S2x256x512 .f32) i := by
  unfold inX
  unfold_abbrev_sides
  after_results
  rfl
theorem wA_eq (d : Dev nD) (i : S512x256.Idx) : wA (F := Ideal) m d i = (m ((d.tc : Thread nD τ).loc main_arg1) : FVec Ideal S512x256 .f32) i := by
  unfold wA
  unfold_abbrev_sides
  after_results
  rfl
theorem wB_eq (d : Dev nD) (i : S256x512.Idx) : wB (F := Ideal) m d i = (m ((d.tc : Thread nD τ).loc main_arg4) : FVec Ideal S256x512 .f32) i := by
  unfold wB
  unfold_abbrev_sides
  after_results
  rfl

/-- Where the slices of the keys and values start: at twice the device. -/
def st0 (d : Fin 16) : Fin 4 → Int := fun k => match k with | 0 => 2 * d.val | 1 => 0 | 2 => 0 | 3 => 0

theorem word_st (d : Fin 16) :
    (Scalar.select (IntOp.cmpi .slt (IntOp.muli (IntOp.remui .vector (IntOp.divui .vector (Dev.word (nD := nD) d) 1#32) 16#32) 2#32) 0#32)
      (IntOp.addi (IntOp.muli (IntOp.remui .vector (IntOp.divui .vector (Dev.word (nD := nD) d) 1#32) 16#32) 2#32) 32#32)
      (IntOp.muli (IntOp.remui .vector (IntOp.divui .vector (Dev.word (nD := nD) d) 1#32) 16#32) 2#32)).toInt = st0 d 0 := by
  revert d; decide

theorem clamped (d : Fin 16) :
    Host.clampedStart S32x256x64x64 S2x256x64x64 rfl (st0 d) 0 = 2 * d.val
      ∧ Host.clampedStart S32x256x64x64 S2x256x64x64 rfl (st0 d) 1 = 0
      ∧ Host.clampedStart S32x256x64x64 S2x256x64x64 rfl (st0 d) 2 = 0
      ∧ Host.clampedStart S32x256x64x64 S2x256x64x64 rfl (st0 d) 3 = 0 := by
  revert d; decide

theorem idx_ext4 {a0 b0 : Fin 32} {a1 b1 : Fin 256} {a2 b2 a3 b3 : Fin 64} (h0 : a0.val = b0.val) (h1 : a1.val = b1.val) (h2 : a2.val = b2.val) (h3 : a3.val = b3.val) :
    ix4 a0 a1 a2 a3 = ix4 b0 b1 b2 b3 := by
  rw [Fin.ext h0, Fin.ext h1, Fin.ext h2, Fin.ext h3]

theorem at_st0 (x : FVec Ideal S32x256x64x64 .f32) (d : Fin 16) (h : Fin 64) (b : Fin 2) (t : Fin 256) (e : Fin 64) :
    (truncf .bf16 (transpose S64x2x256x64 [2, 0, 1, 3] (Host.dynamicSlice S2x256x64x64 x (st0 d) sliceFits_S32x256x64x64_S2x256x64x64)
      transposes_S2x256x64x64_S64x2x256x64_2_0_1_3) bitsLt_bf16_f32 : FVec Ideal S64x2x256x64 .bf16) (ix4 h b t e)
      = x (ix4 ⟨2 * d.val + b.val, by omega⟩ t h e) := by
  pointwise
  obtain ⟨h0, h1, h2, h3⟩ := clamped d
  refine congrArg x (idx_ext4 ?_ ?_ ?_ ?_)
  · show Host.clampedStart S32x256x64x64 S2x256x64x64 rfl (st0 d) 0 + b.val = 2 * d.val + b.val; omega
  · show Host.clampedStart S32x256x64x64 S2x256x64x64 rfl (st0 d) 1 + t.val = t.val; omega
  · show Host.clampedStart S32x256x64x64 S2x256x64x64 rfl (st0 d) 2 + h.val = h.val; omega
  · show Host.clampedStart S32x256x64x64 S2x256x64x64 rfl (st0 d) 3 + e.val = e.val; omega

theorem inK_eq (d : Fin 16) (h : Fin 64) (b : Fin 2) (t : Fin 256) (e : Fin 64) :
    inK (F := Ideal) m d (ix4 h b t e) = (m ((Dev.tc (nD := nD) d : Thread nD τ).loc main_arg2) : FVec Ideal S32x256x64x64 .f32) (ix4 ⟨2 * d.val + b.val, by omega⟩ t h e) := by
  unfold inK
  unfold_abbrev_sides
  after_results_simp_entrywise
  refine (congrFun (congrArg (fun st : Fin 4 → Int => (truncf .bf16 (transpose S64x2x256x64 [2, 0, 1, 3]
    (Host.dynamicSlice S2x256x64x64 (m ((Dev.tc (nD := nD) d : Thread nD τ).loc main_arg2) : FVec Ideal S32x256x64x64 .f32) st sliceFits_S32x256x64x64_S2x256x64x64)
      transposes_S2x256x64x64_S64x2x256x64_2_0_1_3) bitsLt_bf16_f32 : FVec Ideal S64x2x256x64 .bf16)) (?_ : _ = st0 d)) _).trans (at_st0 _ d h b t e)
  funext k
  match k with
  | 0 => exact word_st d
  | 1 => rfl
  | 2 => rfl
  | 3 => rfl

theorem inV_eq (d : Fin 16) (h : Fin 64) (b : Fin 2) (t : Fin 256) (e : Fin 64) :
    inV (F := Ideal) m d (ix4 h b t e) = (m ((Dev.tc (nD := nD) d : Thread nD τ).loc main_arg3) : FVec Ideal S32x256x64x64 .f32) (ix4 ⟨2 * d.val + b.val, by omega⟩ t h e) := by
  unfold inV
  unfold_abbrev_sides
  after_results_simp_entrywise
  refine (congrFun (congrArg (fun st : Fin 4 → Int => (truncf .bf16 (transpose S64x2x256x64 [2, 0, 1, 3]
    (Host.dynamicSlice S2x256x64x64 (m ((Dev.tc (nD := nD) d : Thread nD τ).loc main_arg3) : FVec Ideal S32x256x64x64 .f32) st sliceFits_S32x256x64x64_S2x256x64x64)
      transposes_S2x256x64x64_S64x2x256x64_2_0_1_3) bitsLt_bf16_f32 : FVec Ideal S64x2x256x64 .bf16)) (?_ : _ = st0 d)) _).trans (at_st0 _ d h b t e)
  funext k
  match k with
  | 0 => exact word_st d
  | 1 => rfl
  | 2 => rfl
  | 3 => rfl

end Cert.KernelIdeal.K
-- ==== Proof.Val.Soft.lean ====
module

public import Idealize.ShloMosaic.Lib.Pointwise

@[expose] public section

noncomputable section

namespace Cert.Soft

open Idealize.ShloMosaic

theorem bits_eighth : ∃ r : ℝ, Ideal.ofBits .f32 0x3E000000#32 = (r : EReal) := by
  simp only [Ideal.ofBits, Ideal.ieee]
  rw [if_neg (by decide), if_neg (by decide)]
  exact ⟨_, rfl⟩
theorem bits_masked : ∃ r : ℝ, Ideal.ofBits .f32 0xCE6E6B28#32 = (r : EReal) := by
  simp only [Ideal.ofBits, Ideal.ieee]
  rw [if_neg (by decide), if_neg (by decide)]
  exact ⟨_, rfl⟩
theorem bits_bot : Ideal.ofBits .f32 0xFF800000#32 = (⊥ : EReal) := by
  simp only [Ideal.ofBits, Ideal.ieee]
  rw [if_pos (by decide), if_pos (by decide), if_pos (by decide)]
theorem bits_top : Ideal.ofBits .f32 0x7F800000#32 = (⊤ : EReal) := by
  simp only [Ideal.ofBits, Ideal.ieee]
  rw [if_pos (by decide), if_pos (by decide), if_neg (by decide)]

theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

theorem sum_mul_coe {ι : Type} (S : Finset ι) (f : ι → EReal) (c : ℝ) (hc : 0 ≤ c) : (∑ j ∈ S, f j) * (c : EReal) = ∑ j ∈ S, f j * (c : EReal) := by
  classical
  induction S using Finset.induction_on with
  | empty => simp
  | insert a S ha ih =>
    rw [Finset.sum_insert ha, Finset.sum_insert ha, EReal.right_distrib_of_nonneg_of_ne_top (EReal.coe_nonneg.mpr hc) (EReal.coe_ne_top c), ih]

/-- The maximum of finitely many reals, at least one, is a real. -/
theorem max_real {n : ℕ} (r : Fin n → ℝ) (j₀ : Fin n) : ∃ m : ℝ, Finset.fold max (⊥ : EReal) (fun j => (r j : EReal)) Finset.univ = (m : EReal) := by
  have h1 : Finset.fold max (⊥ : EReal) (fun j => (r j : EReal)) Finset.univ < ⊤ :=
    (Finset.fold_max_lt _).mpr ⟨bot_lt_top, fun j _ => EReal.coe_lt_top _⟩
  have h2 : (⊥ : EReal) < Finset.fold max (⊥ : EReal) (fun j => (r j : EReal)) Finset.univ :=
    (Finset.lt_fold_max _).mpr (.inr ⟨j₀, Finset.mem_univ _, EReal.bot_lt_coe _⟩)
  exact ⟨_, (EReal.coe_toReal h1.ne h2.ne').symm⟩

/-- Weights shifted by the row maximum and weights not shifted give one average. -/
theorem soft {n : ℕ} (s : Fin n → EReal) (hs : ∀ j, ∃ r : ℝ, s j = (r : EReal)) (j₀ : Fin n) (v : Fin n → EReal) :
    ∑ j, v j * Ideal.div (Ideal.exp (s j - Finset.fold max (⊥ : EReal) s Finset.univ))
        (∑ j, Ideal.exp (s j - Finset.fold max (⊥ : EReal) s Finset.univ))
      = Ideal.div (∑ j, Ideal.exp (s j) * v j) (∑ j, Ideal.exp (s j)) := by
  choose r hr using hs
  obtain rfl : s = fun j => (r j : EReal) := funext hr
  obtain ⟨m, hm⟩ := max_real r j₀
  rw [hm]
  have e1 : ∀ j, Ideal.exp ((r j : EReal) - (m : EReal)) = (Real.exp (r j - m) : EReal) := fun j => by
    rw [← EReal.coe_sub]; exact Ideal.exp_coe _
  simp only [e1, Ideal.exp_coe, ← coe_sum]
  have p1 : 0 < ∑ j, Real.exp (r j - m) := Finset.sum_pos (fun j _ => Real.exp_pos _) ⟨j₀, Finset.mem_univ _⟩
  have p2 : 0 < ∑ j, Real.exp (r j) := Finset.sum_pos (fun j _ => Real.exp_pos _) ⟨j₀, Finset.mem_univ _⟩
  simp only [Ideal.div_coe p1.ne', Ideal.div_coe p2.ne']
  rw [sum_mul_coe _ _ _ (one_div_pos.mpr p2).le]
  refine Finset.sum_congr rfl fun j _ => ?_
  rw [mul_comm (Real.exp (r j) : EReal) (v j), mul_assoc, ← EReal.coe_mul, ← EReal.coe_mul]
  refine congrArg (fun t : ℝ => v j * (t : EReal)) ?_
  have e2 : ∑ j, Real.exp (r j - m) = (∑ j, Real.exp (r j)) * (Real.exp m)⁻¹ := by
    rw [Finset.sum_mul]; exact Finset.sum_congr rfl fun j _ => by rw [Real.exp_sub, div_eq_mul_inv]
  rw [e2, Real.exp_sub]
  have := Real.exp_pos m
  field_simp

end Cert.Soft
-- ==== Proof.Val.Ref.lean ====
module

public import proofs.«01_k».proof.Proof.Gen.ReferenceIdeal.Run
public import Idealize.ShloMosaic.Lib.Pointwise
public import Idealize.ShloMosaic.Lib.Routing.OpsOrder
public import proofs.«01_k».proof.Proof.Val.Soft

@[expose] public section

set_option maxRecDepth 16384

noncomputable section

namespace Cert.ReferenceIdeal.R

open Idealize.ShloMosaic
open Cert.ReferenceIdeal Cert.ReferenceIdeal.Gen

/-! ## The reference's values, named -/

/-- The group of 64 each position is in. -/
def grp : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The mask. -/
def msk : IVec S256x256 1 :=
  cmpi .sle (broadcastInDim S256x256 ![0, 1] bcast_S1x256_S256x256_0_1 (broadcastInDim S1x256 ![1] bcast_S256_S1x256_1 grp))
    (broadcastInDim S256x256 ![0, 1] bcast_S256x1_S256x256_0_1 (broadcastInDim S256x1 ![0] bcast_S256_S256x1_0 grp))

variable (x : FVec Ideal S32x256x512 .f32) (wq : FVec Ideal S512x4096 .f32) (k v : FVec Ideal S32x256x64x64 .f32) (wo : FVec Ideal S4096x512 .f32)

/-- The masked scores. -/
def sco : FVec Ideal S32x64x256x256 .f32 :=
  select (broadcastInDim S32x64x256x256 ![0, 1, 2, 3] bcast_S1x1x256x256_S32x64x256x256_0_1_2_3 (broadcastInDim S1x1x256x256 ![2, 3] bcast_S256x256_S1x1x256x256_2_3 msk))
    (mulf (Host.dotGeneral dot_S32x256x64x64_S32x256x64x64_S32x64x256x256_3_3_1_1_02_02 none
        (shapeCast S32x256x64x64 (Host.dotGeneral dot_S32x256x512_S512x4096_S32x256x4096_2_0_01_1_n_n none x wq) shapeCasts_S32x256x4096_S32x256x64x64) k)
      (broadcastInDim S32x64x256x256 ![] bcast_S_S32x64x256x256 (constant S_ .f32 0x3E000000#32)))
    (broadcastInDim S32x64x256x256 ![] bcast_S_S32x64x256x256 (id (constant S_ .f32 0xCE6E6B28#32)))

/-- The exponentials, shifted by the row maximum. -/
def ex : FVec Ideal S32x64x256x256 .f32 :=
  Host.exp (subf (sco x wq k) (broadcastInDim S32x64x256x256 ![0, 1, 2, 3] bcast_S32x64x256x1_S32x64x256x256_0_1_2_3
    (broadcastInDim S32x64x256x1 ![0, 1, 2] bcast_S32x64x256_S32x64x256x1_0_1_2
      (Host.reduce FloatOps.maximumf (sco x wq k) (constant S_ .f32 0xFF800000#32) reducesTo_S32x64x256x256_S32x64x256_d3 h_S_))))

/-- The rows with some entry kept: all of them. -/
def keep : IVec S256 1 := Host.reduce IntOp.ori msk (constantI S_ 1 0#1) reducesTo_S256x256_S256_d1 h_S_

/-- The weights. -/
def wts : FVec Ideal S32x64x256x256 .f32 :=
  select (broadcastInDim S32x64x256x256 ![0, 1, 2, 3] bcast_S1x1x256x1_S32x64x256x256_0_1_2_3 (broadcastInDim S1x1x256x1 ![2] bcast_S256_S1x1x256x1_2 keep))
    (Host.divf (ex x wq k) (broadcastInDim S32x64x256x256 ![0, 1, 2, 3] bcast_S32x64x256x1_S32x64x256x256_0_1_2_3
      (select (broadcastInDim S32x64x256x1 ![0, 1, 2, 3] bcast_S1x1x256x1_S32x64x256x1_0_1_2_3 (broadcastInDim S1x1x256x1 ![2] bcast_S256_S1x1x256x1_2 keep))
        (broadcastInDim S32x64x256x1 ![0, 1, 2] bcast_S32x64x256_S32x64x256x1_0_1_2
          (Host.reduceAdd (ex x wq k) (constant S_ .f32 0x00000000#32) reducesTo_S32x64x256x256_S32x64x256_d3 h_S_))
        (broadcastInDim S32x64x256x1 ![] bcast_S_S32x64x256x1 (id (constant S_ .f32 0x3F800000#32))))))
    (broadcastInDim S32x64x256x256 ![] bcast_S_S32x64x256x256 (id (constant S_ .f32 0x00000000#32)))

/-- The result. -/
def refV : FVec Ideal S32x256x512 .f32 :=
  Host.dotGeneral dot_S32x256x4096_S4096x512_S32x256x512_2_0_01_1_n_n none
    (shapeCast S32x256x4096 (transpose S32x256x64x64 [0, 3, 1, 2]
      (Host.dotGeneral dot_S32x256x64x64_S32x64x256x256_S32x64x64x256_1_3_3_2_02_01 none v (wts x wq k)) transposes_S32x64x64x256_S32x256x64x64_0_3_1_2) shapeCasts_S32x256x64x64_S32x256x4096) wo

theorem res_eq (m : (ℓ : Loc nD τ sig) → Buf (Elt Ideal) ℓ) (c : Dev nD) :
    Value.res_main_v33 (F := Ideal) m c
      = refV (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-! ## Read at an index -/

theorem grp_apply (i : Fin 256) : grp (ix1 i) = BitVec.ofNat 32 (i.val / 64) := by
  pointwise [grp]
  revert i; decide

theorem msk_apply (i j : Fin 256) : msk (ix2 i j) = if j.val / 64 ≤ i.val / 64 then 1#1 else 0#1 := by
  pointwise [msk]
  simp only [grp_apply]
  have h : ∀ a b : Fin 4, IntOp.cmpi CmpIPredicate.sle (BitVec.ofNat 32 a.val) (BitVec.ofNat 32 b.val) = if a.val ≤ b.val then 1#1 else 0#1 := by decide
  exact h ⟨j.val / 64, by omega⟩ ⟨i.val / 64, by omega⟩

theorem keep_apply (i : Fin 256) : keep (ix1 i) = 1#1 := by
  pointwise [keep]
  rw [Routing.fold_ori]
  exact ⟨i, by simp [msk_apply]⟩

theorem select_bit {α : Type} (p : Prop) [Decidable p] (a b : α) : Scalar.select (if p then 1#1 else 0#1) a b = if p then a else b := by
  by_cases h : p <;> simp [h, Scalar.select]

/-- The projected queries. -/
def prj (B : Fin 32) (h : Fin 64) (i : Fin 256) (d : Fin 64) : EReal :=
  ∑ e : Fin 512, x (ix3 B i e) * wq (ix2 e ⟨h.val * 64 + d.val, by omega⟩)

theorem sco_apply (B : Fin 32) (h : Fin 64) (i j : Fin 256) : sco x wq k (ix4 B h i j)
    = if j.val / 64 ≤ i.val / 64 then (∑ d : Fin 64, prj x wq B h i d * k (ix4 B j h d)) * Ideal.ofBits .f32 0x3E000000#32 else Ideal.ofBits .f32 0xCE6E6B28#32 := by
  unfold prj
  pointwise [sco]
  rw [msk_apply, select_bit]
  rfl

theorem ex_apply (B : Fin 32) (h : Fin 64) (i j : Fin 256) : ex x wq k (ix4 B h i j)
    = Ideal.exp (sco x wq k (ix4 B h i j) - Finset.fold max (⊥ : EReal) (fun j => sco x wq k (ix4 B h i j)) Finset.univ) := by
  rw [← Cert.Soft.bits_bot]
  pointwise [ex]

theorem wts_apply (B : Fin 32) (h : Fin 64) (i j : Fin 256) : wts x wq k (ix4 B h i j)
    = Ideal.div (ex x wq k (ix4 B h i j)) (∑ j, ex x wq k (ix4 B h i j)) := by
  pointwise [wts]
  rw [keep_apply]
  rfl

/-- Every score is a real when the queries' and keys' factors are. -/
theorem sco_real (hx : ∀ i, ∃ r : ℝ, x i = (r : EReal)) (hw : ∀ i, ∃ r : ℝ, wq i = (r : EReal)) (hk : ∀ i, ∃ r : ℝ, k i = (r : EReal))
    (B : Fin 32) (h : Fin 64) (i j : Fin 256) : ∃ r : ℝ, sco x wq k (ix4 B h i j) = (r : EReal) := by
  choose x' hx using hx
  choose w' hw using hw
  choose k' hk using hk
  rw [sco_apply]
  unfold prj
  obtain ⟨a, ha⟩ := Cert.Soft.bits_eighth
  obtain ⟨b, hb⟩ := Cert.Soft.bits_masked
  simp only [hx, hw, hk, ha, hb, ← EReal.coe_mul, ← Cert.Soft.coe_sum]
  split
  · exact ⟨_, rfl⟩
  · exact ⟨_, rfl⟩

theorem refV_apply (hx : ∀ i, ∃ r : ℝ, x i = (r : EReal)) (hw : ∀ i, ∃ r : ℝ, wq i = (r : EReal)) (hk : ∀ i, ∃ r : ℝ, k i = (r : EReal))
    (B : Fin 32) (i : Fin 256) (n : Fin 512) : refV x wq k v wo (ix3 B i n)
    = ∑ L : Fin 4096, Ideal.div (∑ j : Fin 256, Ideal.exp (sco x wq k (ix4 B ⟨L.val / 64, by omega⟩ i j)) * v (ix4 B j ⟨L.val / 64, by omega⟩ ⟨L.val % 64, by omega⟩))
        (∑ j : Fin 256, Ideal.exp (sco x wq k (ix4 B ⟨L.val / 64, by omega⟩ i j))) * wo (ix2 L n) := by
  pointwise [refV]
  refine Finset.sum_congr rfl fun L _ => congrArg (· * _) ?_
  simp only [wts_apply, ex_apply]
  exact Cert.Soft.soft (fun j => sco x wq k (ix4 B ⟨L.val / 64, by omega⟩ i j)) (fun j => sco_real x wq k hx hw hk _ _ _ _) 0
    (fun j => v (ix4 B j ⟨L.val / 64, by omega⟩ ⟨L.val % 64, by omega⟩))

end Cert.ReferenceIdeal.R
-- ==== Proof.Val.Value.lean ====
module

public import proofs.«01_k».proof.Proof.Val.Total
public import proofs.«01_k».proof.Proof.Val.Ref
public import Idealize.ShloMosaic.Lib.Pointwise

@[expose] public section

set_option maxRecDepth 16384

noncomputable section

namespace Cert.Val

open Idealize.ShloMosaic

/-- A sum over the 4096 columns, by the device that owns them. -/
theorem sum_by_owner (f : Fin 4096 → EReal) : ∑ L : Fin 4096, f L = ∑ o : Fin 16, ∑ l : Fin 256, f ⟨256 * o.val + l.val, by omega⟩ := by
  rw [← Fintype.sum_prod_type']
  refine (Fintype.sum_equiv (finProdFinEquiv (m := 16) (n := 256)) _ _ fun p => ?_).symm
  refine congrArg f (Fin.ext ?_)
  show 256 * p.1.val + p.2.val = p.2.val + 256 * p.1.val
  omega

variable (X : FVec Ideal Cert.ReferenceIdeal.S32x256x512 .f32) (WQ : FVec Ideal Cert.ReferenceIdeal.S512x4096 .f32)
  (K V : FVec Ideal Cert.ReferenceIdeal.S32x256x64x64 .f32) (WO : FVec Ideal Cert.ReferenceIdeal.S4096x512 .f32)
  (A : Dev Cert.KernelIdeal.nD → Vec Ideal Cert.KernelIdeal.S512x256 .bf16) (B : Dev Cert.KernelIdeal.nD → Vec Ideal Cert.KernelIdeal.S256x512 .bf16)
  (y : Vec Ideal Cert.KernelIdeal.S2x256x512 .bf16) (g3 g4 : Vec Ideal Cert.KernelIdeal.S64x2x256x64 .bf16) (c : Fin 16)

/-- One device's result, at one position, is the reference's at the position the device's block has there. -/
theorem value_at
    (hA : ∀ (o : Fin 16) (e : Fin 512) (l : Fin 256), A o (ix2 e l) = WQ (ix2 e ⟨256 * o.val + l.val, by omega⟩))
    (hB : ∀ (o : Fin 16) (l : Fin 256) (n : Fin 512), B o (ix2 l n) = WO (ix2 ⟨256 * o.val + l.val, by omega⟩ n))
    (hy : ∀ (b : Fin 2) (i : Fin 256) (e : Fin 512), y (ix3 b i e) = X (ix3 ⟨2 * c.val + b.val, by omega⟩ i e))
    (h3 : ∀ (h : Fin 64) (b : Fin 2) (t : Fin 256) (e : Fin 64), g3 (ix4 h b t e) = K (ix4 ⟨2 * c.val + b.val, by omega⟩ t h e))
    (h4 : ∀ (h : Fin 64) (b : Fin 2) (t : Fin 256) (e : Fin 64), g4 (ix4 h b t e) = V (ix4 ⟨2 * c.val + b.val, by omega⟩ t h e))
    (hx : ∀ i, ∃ r : ℝ, X i = (r : EReal)) (hw : ∀ i, ∃ r : ℝ, WQ i = (r : EReal)) (hk : ∀ i, ∃ r : ℝ, K i = (r : EReal))
    (b : Fin 2) (i : Fin 256) (n : Fin 512) :
    Cert.KernelIdeal.K.outV A B c y g3 g4 (ix3 b i n) = Cert.ReferenceIdeal.R.refV X WQ K V WO (ix3 ⟨2 * c.val + b.val, by omega⟩ i n) := by
  rw [Cert.KernelIdeal.K.outV_apply, Cert.ReferenceIdeal.R.refV_apply X WQ K V WO hx hw hk, sum_by_owner]
  refine Finset.sum_congr rfl fun o _ => ?_
  unfold Cert.KernelIdeal.K.blkT
  refine Finset.sum_congr rfl fun l _ => ?_
  have e1 : (⟨(256 * o.val + l.val) / 64, by omega⟩ : Fin 64) = ⟨4 * o.val + l.val / 64, by omega⟩ := Fin.ext (by show (256 * o.val + l.val) / 64 = 4 * o.val + l.val / 64; omega)
  have e2 : (⟨(256 * o.val + l.val) % 64, by omega⟩ : Fin 64) = ⟨l.val % 64, by omega⟩ := Fin.ext (by show (256 * o.val + l.val) % 64 = l.val % 64; omega)
  rw [hB o l n]
  refine congrArg (· * _) ?_
  simp only [e1, e2]
  have hs : ∀ j : Fin 256, Cert.KernelIdeal.K.scr
      (fun i d => ∑ e : Fin 512, Cert.KernelIdeal.K.rowsV y (ix2 ⟨256 * b.val + i.val, by omega⟩ e) * A o (ix2 e ⟨64 * (l.val / 64) + d.val, by omega⟩))
      (fun t d => g3 (ix4 ⟨4 * o.val + l.val / 64, by omega⟩ b t d)) i j
      = Cert.ReferenceIdeal.R.sco X WQ K (ix4 ⟨2 * c.val + b.val, by omega⟩ ⟨4 * o.val + l.val / 64, by omega⟩ i j) := by
    intro j
    rw [Cert.ReferenceIdeal.R.sco_apply]
    unfold Cert.KernelIdeal.K.scr Cert.ReferenceIdeal.R.prj
    refine if_congr Iff.rfl (congrArg (· * _) (Finset.sum_congr rfl fun d _ => ?_)) rfl
    show (∑ e : Fin 512, Cert.KernelIdeal.K.rowsV y (ix2 ⟨256 * b.val + i.val, by omega⟩ e) * A o (ix2 e ⟨64 * (l.val / 64) + d.val, by omega⟩)) * g3 (ix4 ⟨4 * o.val + l.val / 64, by omega⟩ b j d) = _
    rw [h3]
    refine congrArg (· * _) (Finset.sum_congr rfl fun e _ => ?_)
    rw [Cert.KernelIdeal.K.rowsV_apply, hy, hA]
    refine congrArg (_ * ·) (congrArg (fun t => WQ (ix2 e t)) (Fin.ext ?_))
    show 256 * o.val + (64 * (l.val / 64) + d.val) = (4 * o.val + l.val / 64) * 64 + d.val
    omega
  unfold Cert.KernelIdeal.K.att
  simp only [hs, h4]

end Cert.Val

end
-- ==== Proof.Val.Pre.lean ====
module

public import proofs.«01_k».proof.Pre_finite_KernelIdeal
public import proofs.«01_k».proof.Proof.Val.Soft
public import Idealize.ShloMosaic.Lib.Pointwise
public import Idealize.ShloMosaic.Lib.Affine

@[expose] public section

set_option maxRecDepth 16384

noncomputable section

namespace Cert.Pre_finite_KernelIdeal

open Idealize.ShloMosaic

/-- The side conditions of the precondition's operations. -/
theorem facts : Facts where
  bcast_S_S2x256x512 := by decide
  reducesTo_S2x256x512_S_d0_1_2 := by decide
  h_S_ := by decide
  bcast_S_S512x256 := by decide
  reducesTo_S512x256_S_d0_1 := by decide
  bcast_S_S32x256x64x64 := by decide
  reducesTo_S32x256x64x64_S_d0_1_2_3 := by decide

/-- A conjunction over a set is true when every member is. -/
theorem fold_andi {ι : Type} [DecidableEq ι] (s : Finset ι) (p : ι → BitVec 1) :
    Finset.fold IntOp.andi (1#1) p s = 1#1 ↔ ∀ x ∈ s, p x = 1#1 := by
  induction s using Finset.induction_on with
  | empty => rw [Finset.fold_empty]; simp
  | insert a s ha ih => rw [Finset.fold_insert ha, IntOp.andi_eq_one, ih]; simp

/-- A number whose absolute value is less than infinity is real. -/
theorem real_of_lt (a : Ideal .f32) (h : BitVec.ofBool (decide (FloatOps.absf a < Ideal.ofBits .f32 0x7F800000#32)) = 1#1) : ∃ r : ℝ, a = (r : EReal) := by
  rw [Cert.Soft.bits_top] at h
  have h' : max (a : EReal) (-(a : EReal)) < ⊤ := by
    by_contra hn
    have : decide (FloatOps.absf a < (⊤ : EReal)) = false := decide_eq_false hn
    rw [this] at h
    exact absurd h (by decide)
  rw [max_lt_iff] at h'
  refine ⟨(a : EReal).toReal, (EReal.coe_toReal h'.1.ne fun hb => ?_).symm⟩
  rw [hb] at h'
  exact absurd h'.2 (by simp)

variable [Facts]
open Facts

variable (x : FVec Ideal S2x256x512 .f32) (wq : FVec Ideal S512x256 .f32) (k v : FVec Ideal S32x256x64x64 .f32) (wo : FVec Ideal S256x512 .f32)

/-- What the precondition says of one device's blocks. -/
theorem real_of (h : fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have e := congrFun h ix0
  revert e
  pointwise [fn]
  intro e
  rw [IntOp.andi_eq_one, IntOp.andi_eq_one, fold_andi, fold_andi, fold_andi] at e
  obtain ⟨⟨hx, hw⟩, hk⟩ := e
  refine ⟨fun i => ?_, fun i => ?_, fun i => ?_⟩
  · obtain ⟨r, hr⟩ := real_of_lt _ (hx (i 0, i 1, i 2) (Finset.mem_univ _))
    exact ⟨r, (congrArg x (show i = ix3 (i 0) (i 1) (i 2) from by funext t; fin_cases t <;> rfl)).trans hr⟩
  · obtain ⟨r, hr⟩ := real_of_lt _ (hw (i 0, i 1) (Finset.mem_univ _))
    exact ⟨r, (congrArg wq (show i = ix2 (i 0) (i 1) from by funext t; fin_cases t <;> rfl)).trans hr⟩
  · exact real_of_lt _ (hk i (Finset.mem_filter.2 ⟨Finset.mem_univ _, funext fun t => t.elim0⟩))

end Cert.Pre_finite_KernelIdeal

end
-- ==== Proof.Val.Algebraic.lean ====
module

public import proofs.«01_k».proof.Defs
public import proofs.«01_k».proof.Proof.KI.Launch
public import proofs.«01_k».proof.Proof.Gen.ReferenceIdeal.Run
public import proofs.«01_k».proof.Proof.Val.Host
public import proofs.«01_k».proof.Proof.Val.Value
public import proofs.«01_k».proof.Proof.Val.Pre

@[expose] public section

set_option maxRecDepth 16384

noncomputable section

namespace Cert.Val

open Idealize.ShloMosaic Idealize.SL.Sem

/-! ## Where a device's block lies in the whole array -/

/-- The rows of `x` and of the result: device `c` holds batch entries `2c` and `2c + 1`. -/
theorem at_x (h : Layout.Tiles ⟨3, ![2, 256, 512]⟩ ⟨3, ![32, 256, 512]⟩ 0 16) (c : Fin 16) (b : Fin 2) (i : Fin 256) (n : Fin 512) :
    h.idx c (ix3 b i n) = ix3 (⟨2 * c.val + b.val, by omega⟩ : Fin 32) i n := by
  funext t
  fin_cases t
  · exact Fin.ext (show c.val * 2 + b.val = 2 * c.val + b.val by omega)
  · rfl
  · rfl

/-- The columns of `Wq`. -/
theorem at_wq (h : Layout.Tiles ⟨2, ![512, 256]⟩ ⟨2, ![512, 4096]⟩ 1 16) (c : Fin 16) (e : Fin 512) (l : Fin 256) :
    h.idx c (ix2 e l) = ix2 e (⟨256 * c.val + l.val, by omega⟩ : Fin 4096) := by
  funext t
  fin_cases t
  · rfl
  · exact Fin.ext (show c.val * 256 + l.val = 256 * c.val + l.val by omega)

/-- The rows of `Wo`. -/
theorem at_wo (h : Layout.Tiles ⟨2, ![256, 512]⟩ ⟨2, ![4096, 512]⟩ 0 16) (c : Fin 16) (l : Fin 256) (n : Fin 512) :
    h.idx c (ix2 l n) = ix2 (⟨256 * c.val + l.val, by omega⟩ : Fin 4096) n := by
  funext t
  fin_cases t
  · exact Fin.ext (show c.val * 256 + l.val = 256 * c.val + l.val by omega)
  · rfl

/-- Two blocks of rows with the same entries are the same. -/
theorem ext3 (f g : FVec Ideal Cert.KernelIdeal.S2x256x512 .f32) (h : ∀ (b : Fin 2) (i : Fin 256) (n : Fin 512), f (ix3 b i n) = g (ix3 b i n)) : f = g := by
  funext i
  have e : i = ix3 (i 0) (i 1) (i 2) := by funext t; fin_cases t <;> rfl
  exact (congrArg f e).trans ((h (i 0) (i 1) (i 2)).trans (congrArg g e.symm))

/-- An array every block of which is real is real. -/
theorem real_x (X : FVec Ideal Cert.ReferenceIdeal.S32x256x512 .f32) (h : Layout.Tiles ⟨3, ![2, 256, 512]⟩ ⟨3, ![32, 256, 512]⟩ 0 16)
    (H : ∀ (c : Fin 16) i, ∃ r : ℝ, Layout.block ⟨3, ![2, 256, 512]⟩ ⟨3, ![32, 256, 512]⟩ 0 16 c X h i = (r : EReal)) (i : Cert.ReferenceIdeal.S32x256x512.Idx) :
    ∃ r : ℝ, X i = (r : EReal) := by
  have h0 : (i 0).val < 32 := (i 0).isLt
  obtain ⟨r, hr⟩ := H ⟨(i 0).val / 2, by omega⟩ (ix3 ⟨(i 0).val % 2, by omega⟩ (i 1) (i 2))
  refine ⟨r, (congrArg X ?_).trans hr⟩
  refine Eq.trans ?_ (at_x h _ _ _ _).symm
  funext t
  fin_cases t
  · exact Fin.ext (show (i 0).val = 2 * ((i 0).val / 2) + (i 0).val % 2 by omega)
  · rfl
  · rfl

theorem real_wq (X : FVec Ideal Cert.ReferenceIdeal.S512x4096 .f32) (h : Layout.Tiles ⟨2, ![512, 256]⟩ ⟨2, ![512, 4096]⟩ 1 16)
    (H : ∀ (c : Fin 16) i, ∃ r : ℝ, Layout.block ⟨2, ![512, 256]⟩ ⟨2, ![512, 4096]⟩ 1 16 c X h i = (r : EReal)) (i : Cert.ReferenceIdeal.S512x4096.Idx) :
    ∃ r : ℝ, X i = (r : EReal) := by
  have h1 : (i 1).val < 4096 := (i 1).isLt
  obtain ⟨r, hr⟩ := H ⟨(i 1).val / 256, by omega⟩ (ix2 (i 0) ⟨(i 1).val % 256, by omega⟩)
  refine ⟨r, (congrArg X ?_).trans hr⟩
  refine Eq.trans ?_ (at_wq h _ _ _).symm
  funext t
  fin_cases t
  · rfl
  · exact Fin.ext (show (i 1).val = 256 * ((i 1).val / 256) + (i 1).val % 256 by omega)

/-! ## The claim -/

/-- On reals, every device's result is its block of the reference's. -/
theorem algebraic : Cert.algebraic_KernelIdeal_ReferenceIdeal (hPre_finite_KernelIdeal := Cert.Pre_finite_KernelIdeal.facts) := by
  intro m g m' g' hpre hin
  haveI := Cert.Pre_finite_KernelIdeal.facts
  have hreal := fun c => Cert.Pre_finite_KernelIdeal.real_of _ _ _ _ _ (hpre c)
  refine ⟨Cert.ReferenceIdeal.R.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨?_, (h.1 c).1⟩) (Cert.KernelIdeal.K.run_main (F := Ideal) m g)
    refine (h.1 c).2.trans (ext3 _ _ fun b i n => ?_)
    refine Eq.trans ?_ (congrArg
      (Cert.ReferenceIdeal.R.refV (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)))
      (at_x (by decide) c b i n).symm)
    unfold Cert.KernelIdeal.K.outD
    refine value_at _ _ _ _ _ (Cert.KernelIdeal.K.wA m) (Cert.KernelIdeal.K.wB m) (Cert.KernelIdeal.K.inX m c) (Cert.KernelIdeal.K.inK m c) (Cert.KernelIdeal.K.inV m c) c
      (fun o e l => ?_) (fun o l n => ?_) (fun b i e => ?_) (fun h b t e => ?_) (fun h b t e => ?_) ?_ ?_ ?_ b i n
    · refine (Cert.KernelIdeal.K.wA_eq m o _).trans ((congrFun (hin o).2.1 _).trans ?_)
      exact congrArg _ (at_wq _ o e l)
    · refine (Cert.KernelIdeal.K.wB_eq m o _).trans ((congrFun (hin o).2.2.2.2 _).trans ?_)
      exact congrArg _ (at_wo _ o l n)
    · refine (Cert.KernelIdeal.K.inX_eq m c _).trans ((congrFun (hin c).1 _).trans ?_)
      exact congrArg _ (at_x _ c b i e)
    · exact (Cert.KernelIdeal.K.inK_eq m c h b t e).trans (congrFun (hin c).2.2.1 _)
    · exact (Cert.KernelIdeal.K.inV_eq m c h b t e).trans (congrFun (hin c).2.2.2.1 _)
    · exact real_x _ (by decide) fun c i => (hin c).1 ▸ (hreal c).1 i
    · exact real_wq _ (by decide) fun c i => (hin c).2.1 ▸ (hreal c).2.1 i
    · exact fun i => (hin 0).2.2.1 ▸ (hreal 0).2.2 i
  · exact (θ_run Cert.ReferenceIdeal.defs _ _).mono (fun r h => ⟨(h 0).1.trans (Cert.ReferenceIdeal.R.res_eq m' 0), (h 0).2⟩)
      (Cert.ReferenceIdeal.Value.run (F := Ideal) m' g')

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Val.Algebraic
public import Idealize.ShloMosaic.Adequacy
public import Idealize.ShloMosaic.Init

@[expose] public section

noncomputable section

namespace Cert.Proof

open Idealize.ShloMosaic Idealize.SL.Sem Cert.Kernel

/-- The kernel's run, its values dropped. -/
theorem frame_p : Cert.quiescent_Kernel := fun m ρ _ =>
  (θ_run Cert.Kernel.defs _ _).mono (fun _ h => ⟨fun c => (h.1 c).1, h.2⟩) (Cert.Kernel.K.run_main (F := Bits) m ρ)

/-- The idealized kernel's run, its values dropped. -/
theorem frame_pi [hPre_finite_KernelIdeal : Cert.Pre_finite_KernelIdeal.Facts] : Cert.quiescent_KernelIdeal := fun m ρ _ =>
  (θ_run Cert.KernelIdeal.defs _ _).mono (fun _ h => ⟨fun c => (h.1 c).1, h.2⟩) (Cert.KernelIdeal.K.run_main (F := Ideal) m ρ)

/-- The same run, no precondition asked. -/
theorem frame_pi_none : Cert.quiescent_KernelIdeal_pre_none := fun m ρ _ =>
  (θ_run Cert.KernelIdeal.defs _ _).mono (fun _ h => ⟨fun c => (h.1 c).1, h.2⟩) (Cert.KernelIdeal.K.run_main (F := Ideal) m ρ)

/-- The reference is a host program without semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The side conditions of the precondition's operations, at the whole arrays. -/
theorem facts_whole : Cert.Pre_finite_ReferenceIdeal.Facts where
  bcast_S_S32x256x512 := by decide
  reducesTo_S32x256x512_S_d0_1_2 := by decide
  h_S_ := by decide
  bcast_S_S512x4096 := by decide
  reducesTo_S512x4096_S_d0_1 := by decide
  bcast_S_S32x256x64x64 := by decide
  reducesTo_S32x256x64x64_S_d0_1_2_3 := by decide

/-- The reference's run under the precondition: the same. -/
theorem frame_ri_finite : Cert.quiescent_ReferenceIdeal_pre_finite_ReferenceIdeal (hPre_finite_ReferenceIdeal := facts_whole) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite_KernelIdeal.facts, facts_whole,
  frame_p, frame_pi (hPre_finite_KernelIdeal := Cert.Pre_finite_KernelIdeal.facts), frame_pi_none, frame_ri, frame_ri_finite, trivial, Cert.Val.algebraic⟩

end Cert.Proof

end
